-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x512x256 : Shape := ⟨3, ![2, 512, 256]⟩
abbrev S2x7x64x256 : Shape := ⟨4, ![2, 7, 64, 256]⟩
abbrev S2x7 : Shape := ⟨2, ![2, 7]⟩
abbrev S_ : Shape := ⟨0, ![]⟩
abbrev S1x512x256 : Shape := ⟨3, ![1, 512, 256]⟩
abbrev S1x1 : Shape := ⟨2, ![1, 1]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .bf16⟩
  | .local _ .vmem, ⟨0, _⟩ => ⟨S512x256, .bf16⟩
  | .local _ .vmem, ⟨1, _⟩ => ⟨S256x512, .bf16⟩
  | .local _ .vmem, ⟨2, _⟩ => ⟨S512x512, .bf16⟩
  | .local _ .vmem, ⟨3, _⟩ => ⟨S2x512x256, .bf16⟩
  | .local _ .vmem, ⟨4, _⟩ => ⟨S2x7x64x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c4_i32_72 : BitVec 32) : Fin 3 → Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c4_i32_72
  let c8_i32_73 : BitVec 32 := 8#32
  let c0_i32_74 : BitVec 32 := 0#32
  let v111 : BitVec 1 := Scalar.cmpi .eq c8_i32_73 c0_i32_74
  let c1_i32_75 : BitVec 32 := 1#32
  let v112 : BitVec 32 := Scalar.select v111 c1_i32_75 c8_i32_73
  let v113 : BitVec 32 := Scalar.remsi v110 v112
  let c0_i32_77 : BitVec 32 := 0#32
  let v115 : BitVec 1 := Scalar.cmpi .slt v113 c0_i32_77
  let c0_i32_78 : BitVec 32 := 0#32
  let v116 : BitVec 1 := Scalar.cmpi .slt v112 c0_i32_78
  let v117 : BitVec 1 := Scalar.xori v115 v116
  let c0_i32_76 : BitVec 32 := 0#32
  let v114 : BitVec 1 := Scalar.cmpi .ne v113 c0_i32_76
  let v118 : BitVec 1 := Scalar.andi v117 v114
  let v119 : BitVec 32 := Scalar.addi v113 v112
  let v120 : BitVec 32 := Scalar.select v118 v119 v113
  let c64_i32 : BitVec 32 := 64#32
  let v121 : BitVec 32 := Scalar.muli v120 c64_i32
  let c0_i32_90 : BitVec 32 := 0#32
  ![0, v121.toNat, 0]
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v110 : BitVec 32 := Scalar.addi v2 c4_i32_72
  let c8_i32_73 : BitVec 32 := 8#32
  let c0_i32_74 : BitVec 32 := 0#32
  let v111 : BitVec 1 := Scalar.cmpi .eq c8_i32_73 c0_i32_74
  let c1_i32_75 : BitVec 32 := 1#32
  let v112 : BitVec 32 := Scalar.select v111 c1_i32_75 c8_i32_73
  let v113 : BitVec 32 := Scalar.remsi v110 v112
  let c0_i32_77 : BitVec 32 := 0#32
  let v115 : BitVec 1 := Scalar.cmpi .slt v113 c0_i32_77
  let c0_i32_78 : BitVec 32 := 0#32
  let v116 : BitVec 1 := Scalar.cmpi .slt v112 c0_i32_78
  let v117 : BitVec 1 := Scalar.xori v115 v116
  let c0_i32_76 : BitVec 32 := 0#32
  let v114 : BitVec 1 := Scalar.cmpi .ne v113 c0_i32_76
  let v118 : BitVec 1 := Scalar.andi v117 v114
  let v119 : BitVec 32 := Scalar.addi v113 v112
  let v120 : BitVec 32 := Scalar.select v118 v119 v113
  let c1_i32_86 : BitVec 32 := 1#32
  let v122 : BitVec 32 := Scalar.muli v120 c1_i32_86
  let v123 : BitVec 32 := Scalar.addi c0_i32_87 v122
  v123.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v132 : BitVec 32 := Scalar.addi v2 c3_i32_91
  let c8_i32_92 : BitVec 32 := 8#32
  let c0_i32_93 : BitVec 32 := 0#32
  let v133 : BitVec 1 := Scalar.cmpi .eq c8_i32_92 c0_i32_93
  let c1_i32_94 : BitVec 32 := 1#32
  let v134 : BitVec 32 := Scalar.select v133 c1_i32_94 c8_i32_92
  let v135 : BitVec 32 := Scalar.remsi v132 v134
  let c0_i32_96 : BitVec 32 := 0#32
  let v137 : BitVec 1 := Scalar.cmpi .slt v135 c0_i32_96
  let c0_i32_97 : BitVec 32 := 0#32
  let v138 : BitVec 1 := Scalar.cmpi .slt v134 c0_i32_97
  let v139 : BitVec 1 := Scalar.xori v137 v138
  let c0_i32_95 : BitVec 32 := 0#32
  let v136 : BitVec 1 := Scalar.cmpi .ne v135 c0_i32_95
  let v140 : BitVec 1 := Scalar.andi v139 v136
  let v141 : BitVec 32 := Scalar.addi v135 v134
  let v142 : BitVec 32 := Scalar.select v140 v141 v135
  let c1_i32_106 : BitVec 32 := 1#32
  let v144 : BitVec 32 := Scalar.muli v142 c1_i32_106
  let v145 : BitVec 32 := Scalar.addi c0_i32_107 v144
  v145.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_111 : BitVec 32 := 5#32
  let v154 : BitVec 32 := Scalar.addi v2 c5_i32_111
  let c8_i32_112 : BitVec 32 := 8#32
  let c0_i32_113 : BitVec 32 := 0#32
  let v155 : BitVec 1 := Scalar.cmpi .eq c8_i32_112 c0_i32_113
  let c1_i32_114 : BitVec 32 := 1#32
  let v156 : BitVec 32 := Scalar.select v155 c1_i32_114 c8_i32_112
  let v157 : BitVec 32 := Scalar.remsi v154 v156
  let c0_i32_116 : BitVec 32 := 0#32
  let v159 : BitVec 1 := Scalar.cmpi .slt v157 c0_i32_116
  let c0_i32_117 : BitVec 32 := 0#32
  let v160 : BitVec 1 := Scalar.cmpi .slt v156 c0_i32_117
  let v161 : BitVec 1 := Scalar.xori v159 v160
  let c0_i32_115 : BitVec 32 := 0#32
  let v158 : BitVec 1 := Scalar.cmpi .ne v157 c0_i32_115
  let v162 : BitVec 1 := Scalar.andi v161 v158
  let v163 : BitVec 32 := Scalar.addi v157 v156
  let v164 : BitVec 32 := Scalar.select v162 v163 v157
  let c1_i32_126 : BitVec 32 := 1#32
  let v166 : BitVec 32 := Scalar.muli v164 c1_i32_126
  let v167 : BitVec 32 := Scalar.addi c0_i32_127 v166
  v167.toNat
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_131 : BitVec 32 := 2#32
  let v176 : BitVec 32 := Scalar.addi v2 c2_i32_131
  let c8_i32_132 : BitVec 32 := 8#32
  let c0_i32_133 : BitVec 32 := 0#32
  let v177 : BitVec 1 := Scalar.cmpi .eq c8_i32_132 c0_i32_133
  let c1_i32_134 : BitVec 32 := 1#32
  let v178 : BitVec 32 := Scalar.select v177 c1_i32_134 c8_i32_132
  let v179 : BitVec 32 := Scalar.remsi v176 v178
  let c0_i32_136 : BitVec 32 := 0#32
  let v181 : BitVec 1 := Scalar.cmpi .slt v179 c0_i32_136
  let c0_i32_137 : BitVec 32 := 0#32
  let v182 : BitVec 1 := Scalar.cmpi .slt v178 c0_i32_137
  let v183 : BitVec 1 := Scalar.xori v181 v182
  let c0_i32_135 : BitVec 32 := 0#32
  let v180 : BitVec 1 := Scalar.cmpi .ne v179 c0_i32_135
  let v184 : BitVec 1 := Scalar.andi v183 v180
  let v185 : BitVec 32 := Scalar.addi v179 v178
  let v186 : BitVec 32 := Scalar.select v184 v185 v179
  let c1_i32_146 : BitVec 32 := 1#32
  let v188 : BitVec 32 := Scalar.muli v186 c1_i32_146
  let v189 : BitVec 32 := Scalar.addi c0_i32_147 v188
  v189.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_151 : BitVec 32 := 6#32
  let v198 : BitVec 32 := Scalar.addi v2 c6_i32_151
  let c8_i32_152 : BitVec 32 := 8#32
  let c0_i32_153 : BitVec 32 := 0#32
  let v199 : BitVec 1 := Scalar.cmpi .eq c8_i32_152 c0_i32_153
  let c1_i32_154 : BitVec 32 := 1#32
  let v200 : BitVec 32 := Scalar.select v199 c1_i32_154 c8_i32_152
  let v201 : BitVec 32 := Scalar.remsi v198 v200
  let c0_i32_156 : BitVec 32 := 0#32
  let v203 : BitVec 1 := Scalar.cmpi .slt v201 c0_i32_156
  let c0_i32_157 : BitVec 32 := 0#32
  let v204 : BitVec 1 := Scalar.cmpi .slt v200 c0_i32_157
  let v205 : BitVec 1 := Scalar.xori v203 v204
  let c0_i32_155 : BitVec 32 := 0#32
  let v202 : BitVec 1 := Scalar.cmpi .ne v201 c0_i32_155
  let v206 : BitVec 1 := Scalar.andi v205 v202
  let v207 : BitVec 32 := Scalar.addi v201 v200
  let v208 : BitVec 32 := Scalar.select v206 v207 v201
  let c1_i32_166 : BitVec 32 := 1#32
  let v210 : BitVec 32 := Scalar.muli v208 c1_i32_166
  let v211 : BitVec 32 := Scalar.addi c0_i32_167 v210
  v211.toNat
def k0_dev13 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_171 : BitVec 32 := 1#32
  let v220 : BitVec 32 := Scalar.addi v2 c1_i32_171
  let c8_i32_172 : BitVec 32 := 8#32
  let c0_i32_173 : BitVec 32 := 0#32
  let v221 : BitVec 1 := Scalar.cmpi .eq c8_i32_172 c0_i32_173
  let c1_i32_174 : BitVec 32 := 1#32
  let v222 : BitVec 32 := Scalar.select v221 c1_i32_174 c8_i32_172
  let v223 : BitVec 32 := Scalar.remsi v220 v222
  let c0_i32_176 : BitVec 32 := 0#32
  let v225 : BitVec 1 := Scalar.cmpi .slt v223 c0_i32_176
  let c0_i32_177 : BitVec 32 := 0#32
  let v226 : BitVec 1 := Scalar.cmpi .slt v222 c0_i32_177
  let v227 : BitVec 1 := Scalar.xori v225 v226
  let c0_i32_175 : BitVec 32 := 0#32
  let v224 : BitVec 1 := Scalar.cmpi .ne v223 c0_i32_175
  let v228 : BitVec 1 := Scalar.andi v227 v224
  let v229 : BitVec 32 := Scalar.addi v223 v222
  let v230 : BitVec 32 := Scalar.select v228 v229 v223
  let c1_i32_186 : BitVec 32 := 1#32
  let v232 : BitVec 32 := Scalar.muli v230 c1_i32_186
  let v233 : BitVec 32 := Scalar.addi c0_i32_187 v232
  v233.toNat
def k0_dev14 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_191 : BitVec 32 := 7#32
  let v242 : BitVec 32 := Scalar.addi v2 c7_i32_191
  let c8_i32_192 : BitVec 32 := 8#32
  let c0_i32_193 : BitVec 32 := 0#32
  let v243 : BitVec 1 := Scalar.cmpi .eq c8_i32_192 c0_i32_193
  let c1_i32_194 : BitVec 32 := 1#32
  let v244 : BitVec 32 := Scalar.select v243 c1_i32_194 c8_i32_192
  let v245 : BitVec 32 := Scalar.remsi v242 v244
  let c0_i32_196 : BitVec 32 := 0#32
  let v247 : BitVec 1 := Scalar.cmpi .slt v245 c0_i32_196
  let c0_i32_197 : BitVec 32 := 0#32
  let v248 : BitVec 1 := Scalar.cmpi .slt v244 c0_i32_197
  let v249 : BitVec 1 := Scalar.xori v247 v248
  let c0_i32_195 : BitVec 32 := 0#32
  let v246 : BitVec 1 := Scalar.cmpi .ne v245 c0_i32_195
  let v250 : BitVec 1 := Scalar.andi v249 v246
  let v251 : BitVec 32 := Scalar.addi v245 v244
  let v252 : BitVec 32 := Scalar.select v250 v251 v245
  let c1_i32_206 : BitVec 32 := 1#32
  let v254 : BitVec 32 := Scalar.muli v252 c1_i32_206
  let v255 : BitVec 32 := Scalar.addi c0_i32_207 v254
  v255.toNat
def k0_off2 (d0 : Dev nD) (c4_i32_211 : BitVec 32) : Fin 3 → Nat :=
  let c1_i32_219 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v264 : BitVec 32 := Scalar.addi v2 c4_i32_211
  let c8_i32_212 : BitVec 32 := 8#32
  let c0_i32_213 : BitVec 32 := 0#32
  let v265 : BitVec 1 := Scalar.cmpi .eq c8_i32_212 c0_i32_213
  let c1_i32_214 : BitVec 32 := 1#32
  let v266 : BitVec 32 := Scalar.select v265 c1_i32_214 c8_i32_212
  let v267 : BitVec 32 := Scalar.remsi v264 v266
  let c0_i32_216 : BitVec 32 := 0#32
  let v269 : BitVec 1 := Scalar.cmpi .slt v267 c0_i32_216
  let c0_i32_217 : BitVec 32 := 0#32
  let v270 : BitVec 1 := Scalar.cmpi .slt v266 c0_i32_217
  let v271 : BitVec 1 := Scalar.xori v269 v270
  let c0_i32_215 : BitVec 32 := 0#32
  let v268 : BitVec 1 := Scalar.cmpi .ne v267 c0_i32_215
  let v272 : BitVec 1 := Scalar.andi v271 v268
  let v273 : BitVec 32 := Scalar.addi v267 v266
  let v274 : BitVec 32 := Scalar.select v272 v273 v267
  let c64_i32_218 : BitVec 32 := 64#32
  let v275 : BitVec 32 := Scalar.muli v274 c64_i32_218
  let c0_i32_230 : BitVec 32 := 0#32
  ![1, v275.toNat, 0]
def k0_dev15 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_211 : BitVec 32 := 4#32
  let v264 : BitVec 32 := Scalar.addi v2 c4_i32_211
  let c8_i32_212 : BitVec 32 := 8#32
  let c0_i32_213 : BitVec 32 := 0#32
  let v265 : BitVec 1 := Scalar.cmpi .eq c8_i32_212 c0_i32_213
  let c1_i32_214 : BitVec 32 := 1#32
  let v266 : BitVec 32 := Scalar.select v265 c1_i32_214 c8_i32_212
  let v267 : BitVec 32 := Scalar.remsi v264 v266
  let c0_i32_216 : BitVec 32 := 0#32
  let v269 : BitVec 1 := Scalar.cmpi .slt v267 c0_i32_216
  let c0_i32_217 : BitVec 32 := 0#32
  let v270 : BitVec 1 := Scalar.cmpi .slt v266 c0_i32_217
  let v271 : BitVec 1 := Scalar.xori v269 v270
  let c0_i32_215 : BitVec 32 := 0#32
  let v268 : BitVec 1 := Scalar.cmpi .ne v267 c0_i32_215
  let v272 : BitVec 1 := Scalar.andi v271 v268
  let v273 : BitVec 32 := Scalar.addi v267 v266
  let v274 : BitVec 32 := Scalar.select v272 v273 v267
  let c1_i32_226 : BitVec 32 := 1#32
  let v276 : BitVec 32 := Scalar.muli v274 c1_i32_226
  let v277 : BitVec 32 := Scalar.addi c0_i32_227 v276
  v277.toNat
def k0_dev16 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_231 : BitVec 32 := 3#32
  let v286 : BitVec 32 := Scalar.addi v2 c3_i32_231
  let c8_i32_232 : BitVec 32 := 8#32
  let c0_i32_233 : BitVec 32 := 0#32
  let v287 : BitVec 1 := Scalar.cmpi .eq c8_i32_232 c0_i32_233
  let c1_i32_234 : BitVec 32 := 1#32
  let v288 : BitVec 32 := Scalar.select v287 c1_i32_234 c8_i32_232
  let v289 : BitVec 32 := Scalar.remsi v286 v288
  let c0_i32_236 : BitVec 32 := 0#32
  let v291 : BitVec 1 := Scalar.cmpi .slt v289 c0_i32_236
  let c0_i32_237 : BitVec 32 := 0#32
  let v292 : BitVec 1 := Scalar.cmpi .slt v288 c0_i32_237
  let v293 : BitVec 1 := Scalar.xori v291 v292
  let c0_i32_235 : BitVec 32 := 0#32
  let v290 : BitVec 1 := Scalar.cmpi .ne v289 c0_i32_235
  let v294 : BitVec 1 := Scalar.andi v293 v290
  let v295 : BitVec 32 := Scalar.addi v289 v288
  let v296 : BitVec 32 := Scalar.select v294 v295 v289
  let c1_i32_246 : BitVec 32 := 1#32
  let v298 : BitVec 32 := Scalar.muli v296 c1_i32_246
  let v299 : BitVec 32 := Scalar.addi c0_i32_247 v298
  v299.toNat
def k0_dev17 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_251 : BitVec 32 := 5#32
  let v308 : BitVec 32 := Scalar.addi v2 c5_i32_251
  let c8_i32_252 : BitVec 32 := 8#32
  let c0_i32_253 : BitVec 32 := 0#32
  let v309 : BitVec 1 := Scalar.cmpi .eq c8_i32_252 c0_i32_253
  let c1_i32_254 : BitVec 32 := 1#32
  let v310 : BitVec 32 := Scalar.select v309 c1_i32_254 c8_i32_252
  let v311 : BitVec 32 := Scalar.remsi v308 v310
  let c0_i32_256 : BitVec 32 := 0#32
  let v313 : BitVec 1 := Scalar.cmpi .slt v311 c0_i32_256
  let c0_i32_257 : BitVec 32 := 0#32
  let v314 : BitVec 1 := Scalar.cmpi .slt v310 c0_i32_257
  let v315 : BitVec 1 := Scalar.xori v313 v314
  let c0_i32_255 : BitVec 32 := 0#32
  let v312 : BitVec 1 := Scalar.cmpi .ne v311 c0_i32_255
  let v316 : BitVec 1 := Scalar.andi v315 v312
  let v317 : BitVec 32 := Scalar.addi v311 v310
  let v318 : BitVec 32 := Scalar.select v316 v317 v311
  let c1_i32_266 : BitVec 32 := 1#32
  let v320 : BitVec 32 := Scalar.muli v318 c1_i32_266
  let v321 : BitVec 32 := Scalar.addi c0_i32_267 v320
  v321.toNat
def k0_dev18 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_271 : BitVec 32 := 2#32
  let v330 : BitVec 32 := Scalar.addi v2 c2_i32_271
  let c8_i32_272 : BitVec 32 := 8#32
  let c0_i32_273 : BitVec 32 := 0#32
  let v331 : BitVec 1 := Scalar.cmpi .eq c8_i32_272 c0_i32_273
  let c1_i32_274 : BitVec 32 := 1#32
  let v332 : BitVec 32 := Scalar.select v331 c1_i32_274 c8_i32_272
  let v333 : BitVec 32 := Scalar.remsi v330 v332
  let c0_i32_276 : BitVec 32 := 0#32
  let v335 : BitVec 1 := Scalar.cmpi .slt v333 c0_i32_276
  let c0_i32_277 : BitVec 32 := 0#32
  let v336 : BitVec 1 := Scalar.cmpi .slt v332 c0_i32_277
  let v337 : BitVec 1 := Scalar.xori v335 v336
  let c0_i32_275 : BitVec 32 := 0#32
  let v334 : BitVec 1 := Scalar.cmpi .ne v333 c0_i32_275
  let v338 : BitVec 1 := Scalar.andi v337 v334
  let v339 : BitVec 32 := Scalar.addi v333 v332
  let v340 : BitVec 32 := Scalar.select v338 v339 v333
  let c1_i32_286 : BitVec 32 := 1#32
  let v342 : BitVec 32 := Scalar.muli v340 c1_i32_286
  let v343 : BitVec 32 := Scalar.addi c0_i32_287 v342
  v343.toNat
def k0_dev19 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_291 : BitVec 32 := 6#32
  let v352 : BitVec 32 := Scalar.addi v2 c6_i32_291
  let c8_i32_292 : BitVec 32 := 8#32
  let c0_i32_293 : BitVec 32 := 0#32
  let v353 : BitVec 1 := Scalar.cmpi .eq c8_i32_292 c0_i32_293
  let c1_i32_294 : BitVec 32 := 1#32
  let v354 : BitVec 32 := Scalar.select v353 c1_i32_294 c8_i32_292
  let v355 : BitVec 32 := Scalar.remsi v352 v354
  let c0_i32_296 : BitVec 32 := 0#32
  let v357 : BitVec 1 := Scalar.cmpi .slt v355 c0_i32_296
  let c0_i32_297 : BitVec 32 := 0#32
  let v358 : BitVec 1 := Scalar.cmpi .slt v354 c0_i32_297
  let v359 : BitVec 1 := Scalar.xori v357 v358
  let c0_i32_295 : BitVec 32 := 0#32
  let v356 : BitVec 1 := Scalar.cmpi .ne v355 c0_i32_295
  let v360 : BitVec 1 := Scalar.andi v359 v356
  let v361 : BitVec 32 := Scalar.addi v355 v354
  let v362 : BitVec 32 := Scalar.select v360 v361 v355
  let c1_i32_306 : BitVec 32 := 1#32
  let v364 : BitVec 32 := Scalar.muli v362 c1_i32_306
  let v365 : BitVec 32 := Scalar.addi c0_i32_307 v364
  v365.toNat
def k0_dev20 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_311 : BitVec 32 := 1#32
  let v374 : BitVec 32 := Scalar.addi v2 c1_i32_311
  let c8_i32_312 : BitVec 32 := 8#32
  let c0_i32_313 : BitVec 32 := 0#32
  let v375 : BitVec 1 := Scalar.cmpi .eq c8_i32_312 c0_i32_313
  let c1_i32_314 : BitVec 32 := 1#32
  let v376 : BitVec 32 := Scalar.select v375 c1_i32_314 c8_i32_312
  let v377 : BitVec 32 := Scalar.remsi v374 v376
  let c0_i32_316 : BitVec 32 := 0#32
  let v379 : BitVec 1 := Scalar.cmpi .slt v377 c0_i32_316
  let c0_i32_317 : BitVec 32 := 0#32
  let v380 : BitVec 1 := Scalar.cmpi .slt v376 c0_i32_317
  let v381 : BitVec 1 := Scalar.xori v379 v380
  let c0_i32_315 : BitVec 32 := 0#32
  let v378 : BitVec 1 := Scalar.cmpi .ne v377 c0_i32_315
  let v382 : BitVec 1 := Scalar.andi v381 v378
  let v383 : BitVec 32 := Scalar.addi v377 v376
  let v384 : BitVec 32 := Scalar.select v382 v383 v377
  let c1_i32_326 : BitVec 32 := 1#32
  let v386 : BitVec 32 := Scalar.muli v384 c1_i32_326
  let v387 : BitVec 32 := Scalar.addi c0_i32_327 v386
  v387.toNat
def k0_dev21 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_331 : BitVec 32 := 7#32
  let v396 : BitVec 32 := Scalar.addi v2 c7_i32_331
  let c8_i32_332 : BitVec 32 := 8#32
  let c0_i32_333 : BitVec 32 := 0#32
  let v397 : BitVec 1 := Scalar.cmpi .eq c8_i32_332 c0_i32_333
  let c1_i32_334 : BitVec 32 := 1#32
  let v398 : BitVec 32 := Scalar.select v397 c1_i32_334 c8_i32_332
  let v399 : BitVec 32 := Scalar.remsi v396 v398
  let c0_i32_336 : BitVec 32 := 0#32
  let v401 : BitVec 1 := Scalar.cmpi .slt v399 c0_i32_336
  let c0_i32_337 : BitVec 32 := 0#32
  let v402 : BitVec 1 := Scalar.cmpi .slt v398 c0_i32_337
  let v403 : BitVec 1 := Scalar.xori v401 v402
  let c0_i32_335 : BitVec 32 := 0#32
  let v400 : BitVec 1 := Scalar.cmpi .ne v399 c0_i32_335
  let v404 : BitVec 1 := Scalar.andi v403 v400
  let v405 : BitVec 32 := Scalar.addi v399 v398
  let v406 : BitVec 32 := Scalar.select v404 v405 v399
  let c1_i32_346 : BitVec 32 := 1#32
  let v408 : BitVec 32 := Scalar.muli v406 c1_i32_346
  let v409 : BitVec 32 := Scalar.addi c0_i32_347 v408
  v409.toNat
def k0_off3 (d0 : Dev nD) : Fin 3 → Nat :=
  let c0_352 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_351 : BitVec 32 := 64#32
  let v418 : BitVec 32 := Scalar.muli v2 c64_i32_351
  let v419 : Index := Scalar.indexCast v418
  let c0_353 : Index := 0#32
  ![0, v419.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_477 : BitVec 32 := 64#32
  let v514 : BitVec 32 := Scalar.muli v2 c64_i32_477
  let v515 : Index := Scalar.indexCast v514
  let c0_478 : Index := 0#32
  ![v515.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_487 : BitVec 32 := 64#32
  let v529 : BitVec 32 := Scalar.muli v2 c64_i32_487
  let c0_i32_494 : BitVec 32 := 0#32
  ![v529.toNat, 0]
def k0_dev22 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_479 : BitVec 32 := 4#32
  let v517 : BitVec 32 := Scalar.addi v2 c4_i32_479
  let c8_i32_480 : BitVec 32 := 8#32
  let c0_i32_481 : BitVec 32 := 0#32
  let v518 : BitVec 1 := Scalar.cmpi .eq c8_i32_480 c0_i32_481
  let c1_i32_482 : BitVec 32 := 1#32
  let v519 : BitVec 32 := Scalar.select v518 c1_i32_482 c8_i32_480
  let v520 : BitVec 32 := Scalar.remsi v517 v519
  let c0_i32_484 : BitVec 32 := 0#32
  let v522 : BitVec 1 := Scalar.cmpi .slt v520 c0_i32_484
  let c0_i32_485 : BitVec 32 := 0#32
  let v523 : BitVec 1 := Scalar.cmpi .slt v519 c0_i32_485
  let v524 : BitVec 1 := Scalar.xori v522 v523
  let c0_i32_483 : BitVec 32 := 0#32
  let v521 : BitVec 1 := Scalar.cmpi .ne v520 c0_i32_483
  let v525 : BitVec 1 := Scalar.andi v524 v521
  let v526 : BitVec 32 := Scalar.addi v520 v519
  let v527 : BitVec 32 := Scalar.select v525 v526 v520
  let c1_i32_492 : BitVec 32 := 1#32
  let v530 : BitVec 32 := Scalar.muli v527 c1_i32_492
  let v531 : BitVec 32 := Scalar.addi c0_i32_493 v530
  v531.toNat
def k0_dev23 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_496 : BitVec 32 := 3#32
  let v538 : BitVec 32 := Scalar.addi v2 c3_i32_496
  let c8_i32_497 : BitVec 32 := 8#32
  let c0_i32_498 : BitVec 32 := 0#32
  let v539 : BitVec 1 := Scalar.cmpi .eq c8_i32_497 c0_i32_498
  let c1_i32_499 : BitVec 32 := 1#32
  let v540 : BitVec 32 := Scalar.select v539 c1_i32_499 c8_i32_497
  let v541 : BitVec 32 := Scalar.remsi v538 v540
  let c0_i32_501 : BitVec 32 := 0#32
  let v543 : BitVec 1 := Scalar.cmpi .slt v541 c0_i32_501
  let c0_i32_502 : BitVec 32 := 0#32
  let v544 : BitVec 1 := Scalar.cmpi .slt v540 c0_i32_502
  let v545 : BitVec 1 := Scalar.xori v543 v544
  let c0_i32_500 : BitVec 32 := 0#32
  let v542 : BitVec 1 := Scalar.cmpi .ne v541 c0_i32_500
  let v546 : BitVec 1 := Scalar.andi v545 v542
  let v547 : BitVec 32 := Scalar.addi v541 v540
  let v548 : BitVec 32 := Scalar.select v546 v547 v541
  let c1_i32_509 : BitVec 32 := 1#32
  let v551 : BitVec 32 := Scalar.muli v548 c1_i32_509
  let v552 : BitVec 32 := Scalar.addi c0_i32_510 v551
  v552.toNat
def k0_dev24 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_513 : BitVec 32 := 5#32
  let v559 : BitVec 32 := Scalar.addi v2 c5_i32_513
  let c8_i32_514 : BitVec 32 := 8#32
  let c0_i32_515 : BitVec 32 := 0#32
  let v560 : BitVec 1 := Scalar.cmpi .eq c8_i32_514 c0_i32_515
  let c1_i32_516 : BitVec 32 := 1#32
  let v561 : BitVec 32 := Scalar.select v560 c1_i32_516 c8_i32_514
  let v562 : BitVec 32 := Scalar.remsi v559 v561
  let c0_i32_518 : BitVec 32 := 0#32
  let v564 : BitVec 1 := Scalar.cmpi .slt v562 c0_i32_518
  let c0_i32_519 : BitVec 32 := 0#32
  let v565 : BitVec 1 := Scalar.cmpi .slt v561 c0_i32_519
  let v566 : BitVec 1 := Scalar.xori v564 v565
  let c0_i32_517 : BitVec 32 := 0#32
  let v563 : BitVec 1 := Scalar.cmpi .ne v562 c0_i32_517
  let v567 : BitVec 1 := Scalar.andi v566 v563
  let v568 : BitVec 32 := Scalar.addi v562 v561
  let v569 : BitVec 32 := Scalar.select v567 v568 v562
  let c1_i32_526 : BitVec 32 := 1#32
  let v572 : BitVec 32 := Scalar.muli v569 c1_i32_526
  let v573 : BitVec 32 := Scalar.addi c0_i32_527 v572
  v573.toNat
def k0_dev25 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_530 : BitVec 32 := 2#32
  let v580 : BitVec 32 := Scalar.addi v2 c2_i32_530
  let c8_i32_531 : BitVec 32 := 8#32
  let c0_i32_532 : BitVec 32 := 0#32
  let v581 : BitVec 1 := Scalar.cmpi .eq c8_i32_531 c0_i32_532
  let c1_i32_533 : BitVec 32 := 1#32
  let v582 : BitVec 32 := Scalar.select v581 c1_i32_533 c8_i32_531
  let v583 : BitVec 32 := Scalar.remsi v580 v582
  let c0_i32_535 : BitVec 32 := 0#32
  let v585 : BitVec 1 := Scalar.cmpi .slt v583 c0_i32_535
  let c0_i32_536 : BitVec 32 := 0#32
  let v586 : BitVec 1 := Scalar.cmpi .slt v582 c0_i32_536
  let v587 : BitVec 1 := Scalar.xori v585 v586
  let c0_i32_534 : BitVec 32 := 0#32
  let v584 : BitVec 1 := Scalar.cmpi .ne v583 c0_i32_534
  let v588 : BitVec 1 := Scalar.andi v587 v584
  let v589 : BitVec 32 := Scalar.addi v583 v582
  let v590 : BitVec 32 := Scalar.select v588 v589 v583
  let c1_i32_543 : BitVec 32 := 1#32
  let v593 : BitVec 32 := Scalar.muli v590 c1_i32_543
  let v594 : BitVec 32 := Scalar.addi c0_i32_544 v593
  v594.toNat
def k0_dev26 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_547 : BitVec 32 := 6#32
  let v601 : BitVec 32 := Scalar.addi v2 c6_i32_547
  let c8_i32_548 : BitVec 32 := 8#32
  let c0_i32_549 : BitVec 32 := 0#32
  let v602 : BitVec 1 := Scalar.cmpi .eq c8_i32_548 c0_i32_549
  let c1_i32_550 : BitVec 32 := 1#32
  let v603 : BitVec 32 := Scalar.select v602 c1_i32_550 c8_i32_548
  let v604 : BitVec 32 := Scalar.remsi v601 v603
  let c0_i32_552 : BitVec 32 := 0#32
  let v606 : BitVec 1 := Scalar.cmpi .slt v604 c0_i32_552
  let c0_i32_553 : BitVec 32 := 0#32
  let v607 : BitVec 1 := Scalar.cmpi .slt v603 c0_i32_553
  let v608 : BitVec 1 := Scalar.xori v606 v607
  let c0_i32_551 : BitVec 32 := 0#32
  let v605 : BitVec 1 := Scalar.cmpi .ne v604 c0_i32_551
  let v609 : BitVec 1 := Scalar.andi v608 v605
  let v610 : BitVec 32 := Scalar.addi v604 v603
  let v611 : BitVec 32 := Scalar.select v609 v610 v604
  let c1_i32_560 : BitVec 32 := 1#32
  let v614 : BitVec 32 := Scalar.muli v611 c1_i32_560
  let v615 : BitVec 32 := Scalar.addi c0_i32_561 v614
  v615.toNat
def k0_dev27 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_564 : BitVec 32 := 1#32
  let v622 : BitVec 32 := Scalar.addi v2 c1_i32_564
  let c8_i32_565 : BitVec 32 := 8#32
  let c0_i32_566 : BitVec 32 := 0#32
  let v623 : BitVec 1 := Scalar.cmpi .eq c8_i32_565 c0_i32_566
  let c1_i32_567 : BitVec 32 := 1#32
  let v624 : BitVec 32 := Scalar.select v623 c1_i32_567 c8_i32_565
  let v625 : BitVec 32 := Scalar.remsi v622 v624
  let c0_i32_569 : BitVec 32 := 0#32
  let v627 : BitVec 1 := Scalar.cmpi .slt v625 c0_i32_569
  let c0_i32_570 : BitVec 32 := 0#32
  let v628 : BitVec 1 := Scalar.cmpi .slt v624 c0_i32_570
  let v629 : BitVec 1 := Scalar.xori v627 v628
  let c0_i32_568 : BitVec 32 := 0#32
  let v626 : BitVec 1 := Scalar.cmpi .ne v625 c0_i32_568
  let v630 : BitVec 1 := Scalar.andi v629 v626
  let v631 : BitVec 32 := Scalar.addi v625 v624
  let v632 : BitVec 32 := Scalar.select v630 v631 v625
  let c1_i32_577 : BitVec 32 := 1#32
  let v635 : BitVec 32 := Scalar.muli v632 c1_i32_577
  let v636 : BitVec 32 := Scalar.addi c0_i32_578 v635
  v636.toNat
def k0_dev28 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_581 : BitVec 32 := 7#32
  let v643 : BitVec 32 := Scalar.addi v2 c7_i32_581
  let c8_i32_582 : BitVec 32 := 8#32
  let c0_i32_583 : BitVec 32 := 0#32
  let v644 : BitVec 1 := Scalar.cmpi .eq c8_i32_582 c0_i32_583
  let c1_i32_584 : BitVec 32 := 1#32
  let v645 : BitVec 32 := Scalar.select v644 c1_i32_584 c8_i32_582
  let v646 : BitVec 32 := Scalar.remsi v643 v645
  let c0_i32_586 : BitVec 32 := 0#32
  let v648 : BitVec 1 := Scalar.cmpi .slt v646 c0_i32_586
  let c0_i32_587 : BitVec 32 := 0#32
  let v649 : BitVec 1 := Scalar.cmpi .slt v645 c0_i32_587
  let v650 : BitVec 1 := Scalar.xori v648 v649
  let c0_i32_585 : BitVec 32 := 0#32
  let v647 : BitVec 1 := Scalar.cmpi .ne v646 c0_i32_585
  let v651 : BitVec 1 := Scalar.andi v650 v647
  let v652 : BitVec 32 := Scalar.addi v646 v645
  let v653 : BitVec 32 := Scalar.select v651 v652 v646
  let c1_i32_594 : BitVec 32 := 1#32
  let v656 : BitVec 32 := Scalar.muli v653 c1_i32_594
  let v657 : BitVec 32 := Scalar.addi c0_i32_595 v656
  v657.toNat
def k0_off6 (d0 : Dev nD) : Fin 3 → Nat :=
  let c1_599 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_598 : BitVec 32 := 64#32
  let v664 : BitVec 32 := Scalar.muli v2 c64_i32_598
  let v665 : Index := Scalar.indexCast v664
  let c0_600 : Index := 0#32
  ![1, v665.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_729 : BitVec 32 := 64#32
  let v760 : BitVec 32 := Scalar.muli v2 c64_i32_729
  let v761 : Index := Scalar.indexCast v760
  let c256 : Index := 256#32
  ![v761.toNat, 256]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_738 : BitVec 32 := 64#32
  let v775 : BitVec 32 := Scalar.muli v2 c64_i32_738
  let c256_i32 : BitVec 32 := 256#32
  ![v775.toNat, 256]
def k0_dev29 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_730 : BitVec 32 := 4#32
  let v763 : BitVec 32 := Scalar.addi v2 c4_i32_730
  let c8_i32_731 : BitVec 32 := 8#32
  let c0_i32_732 : BitVec 32 := 0#32
  let v764 : BitVec 1 := Scalar.cmpi .eq c8_i32_731 c0_i32_732
  let c1_i32_733 : BitVec 32 := 1#32
  let v765 : BitVec 32 := Scalar.select v764 c1_i32_733 c8_i32_731
  let v766 : BitVec 32 := Scalar.remsi v763 v765
  let c0_i32_735 : BitVec 32 := 0#32
  let v768 : BitVec 1 := Scalar.cmpi .slt v766 c0_i32_735
  let c0_i32_736 : BitVec 32 := 0#32
  let v769 : BitVec 1 := Scalar.cmpi .slt v765 c0_i32_736
  let v770 : BitVec 1 := Scalar.xori v768 v769
  let c0_i32_734 : BitVec 32 := 0#32
  let v767 : BitVec 1 := Scalar.cmpi .ne v766 c0_i32_734
  let v771 : BitVec 1 := Scalar.andi v770 v767
  let v772 : BitVec 32 := Scalar.addi v766 v765
  let v773 : BitVec 32 := Scalar.select v771 v772 v766
  let c1_i32_743 : BitVec 32 := 1#32
  let v776 : BitVec 32 := Scalar.muli v773 c1_i32_743
  let v777 : BitVec 32 := Scalar.addi c0_i32_744 v776
  v777.toNat
def k0_dev30 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_746 : BitVec 32 := 3#32
  let v784 : BitVec 32 := Scalar.addi v2 c3_i32_746
  let c8_i32_747 : BitVec 32 := 8#32
  let c0_i32_748 : BitVec 32 := 0#32
  let v785 : BitVec 1 := Scalar.cmpi .eq c8_i32_747 c0_i32_748
  let c1_i32_749 : BitVec 32 := 1#32
  let v786 : BitVec 32 := Scalar.select v785 c1_i32_749 c8_i32_747
  let v787 : BitVec 32 := Scalar.remsi v784 v786
  let c0_i32_751 : BitVec 32 := 0#32
  let v789 : BitVec 1 := Scalar.cmpi .slt v787 c0_i32_751
  let c0_i32_752 : BitVec 32 := 0#32
  let v790 : BitVec 1 := Scalar.cmpi .slt v786 c0_i32_752
  let v791 : BitVec 1 := Scalar.xori v789 v790
  let c0_i32_750 : BitVec 32 := 0#32
  let v788 : BitVec 1 := Scalar.cmpi .ne v787 c0_i32_750
  let v792 : BitVec 1 := Scalar.andi v791 v788
  let v793 : BitVec 32 := Scalar.addi v787 v786
  let v794 : BitVec 32 := Scalar.select v792 v793 v787
  let c1_i32_759 : BitVec 32 := 1#32
  let v797 : BitVec 32 := Scalar.muli v794 c1_i32_759
  let v798 : BitVec 32 := Scalar.addi c0_i32_760 v797
  v798.toNat
def k0_dev31 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_763 : BitVec 32 := 5#32
  let v805 : BitVec 32 := Scalar.addi v2 c5_i32_763
  let c8_i32_764 : BitVec 32 := 8#32
  let c0_i32_765 : BitVec 32 := 0#32
  let v806 : BitVec 1 := Scalar.cmpi .eq c8_i32_764 c0_i32_765
  let c1_i32_766 : BitVec 32 := 1#32
  let v807 : BitVec 32 := Scalar.select v806 c1_i32_766 c8_i32_764
  let v808 : BitVec 32 := Scalar.remsi v805 v807
  let c0_i32_768 : BitVec 32 := 0#32
  let v810 : BitVec 1 := Scalar.cmpi .slt v808 c0_i32_768
  let c0_i32_769 : BitVec 32 := 0#32
  let v811 : BitVec 1 := Scalar.cmpi .slt v807 c0_i32_769
  let v812 : BitVec 1 := Scalar.xori v810 v811
  let c0_i32_767 : BitVec 32 := 0#32
  let v809 : BitVec 1 := Scalar.cmpi .ne v808 c0_i32_767
  let v813 : BitVec 1 := Scalar.andi v812 v809
  let v814 : BitVec 32 := Scalar.addi v808 v807
  let v815 : BitVec 32 := Scalar.select v813 v814 v808
  let c1_i32_776 : BitVec 32 := 1#32
  let v818 : BitVec 32 := Scalar.muli v815 c1_i32_776
  let v819 : BitVec 32 := Scalar.addi c0_i32_777 v818
  v819.toNat
def k0_dev32 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_780 : BitVec 32 := 2#32
  let v826 : BitVec 32 := Scalar.addi v2 c2_i32_780
  let c8_i32_781 : BitVec 32 := 8#32
  let c0_i32_782 : BitVec 32 := 0#32
  let v827 : BitVec 1 := Scalar.cmpi .eq c8_i32_781 c0_i32_782
  let c1_i32_783 : BitVec 32 := 1#32
  let v828 : BitVec 32 := Scalar.select v827 c1_i32_783 c8_i32_781
  let v829 : BitVec 32 := Scalar.remsi v826 v828
  let c0_i32_785 : BitVec 32 := 0#32
  let v831 : BitVec 1 := Scalar.cmpi .slt v829 c0_i32_785
  let c0_i32_786 : BitVec 32 := 0#32
  let v832 : BitVec 1 := Scalar.cmpi .slt v828 c0_i32_786
  let v833 : BitVec 1 := Scalar.xori v831 v832
  let c0_i32_784 : BitVec 32 := 0#32
  let v830 : BitVec 1 := Scalar.cmpi .ne v829 c0_i32_784
  let v834 : BitVec 1 := Scalar.andi v833 v830
  let v835 : BitVec 32 := Scalar.addi v829 v828
  let v836 : BitVec 32 := Scalar.select v834 v835 v829
  let c1_i32_793 : BitVec 32 := 1#32
  let v839 : BitVec 32 := Scalar.muli v836 c1_i32_793
  let v840 : BitVec 32 := Scalar.addi c0_i32_794 v839
  v840.toNat
def k0_dev33 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_797 : BitVec 32 := 6#32
  let v847 : BitVec 32 := Scalar.addi v2 c6_i32_797
  let c8_i32_798 : BitVec 32 := 8#32
  let c0_i32_799 : BitVec 32 := 0#32
  let v848 : BitVec 1 := Scalar.cmpi .eq c8_i32_798 c0_i32_799
  let c1_i32_800 : BitVec 32 := 1#32
  let v849 : BitVec 32 := Scalar.select v848 c1_i32_800 c8_i32_798
  let v850 : BitVec 32 := Scalar.remsi v847 v849
  let c0_i32_802 : BitVec 32 := 0#32
  let v852 : BitVec 1 := Scalar.cmpi .slt v850 c0_i32_802
  let c0_i32_803 : BitVec 32 := 0#32
  let v853 : BitVec 1 := Scalar.cmpi .slt v849 c0_i32_803
  let v854 : BitVec 1 := Scalar.xori v852 v853
  let c0_i32_801 : BitVec 32 := 0#32
  let v851 : BitVec 1 := Scalar.cmpi .ne v850 c0_i32_801
  let v855 : BitVec 1 := Scalar.andi v854 v851
  let v856 : BitVec 32 := Scalar.addi v850 v849
  let v857 : BitVec 32 := Scalar.select v855 v856 v850
  let c1_i32_810 : BitVec 32 := 1#32
  let v860 : BitVec 32 := Scalar.muli v857 c1_i32_810
  let v861 : BitVec 32 := Scalar.addi c0_i32_811 v860
  v861.toNat
def k0_dev34 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_814 : BitVec 32 := 1#32
  let v868 : BitVec 32 := Scalar.addi v2 c1_i32_814
  let c8_i32_815 : BitVec 32 := 8#32
  let c0_i32_816 : BitVec 32 := 0#32
  let v869 : BitVec 1 := Scalar.cmpi .eq c8_i32_815 c0_i32_816
  let c1_i32_817 : BitVec 32 := 1#32
  let v870 : BitVec 32 := Scalar.select v869 c1_i32_817 c8_i32_815
  let v871 : BitVec 32 := Scalar.remsi v868 v870
  let c0_i32_819 : BitVec 32 := 0#32
  let v873 : BitVec 1 := Scalar.cmpi .slt v871 c0_i32_819
  let c0_i32_820 : BitVec 32 := 0#32
  let v874 : BitVec 1 := Scalar.cmpi .slt v870 c0_i32_820
  let v875 : BitVec 1 := Scalar.xori v873 v874
  let c0_i32_818 : BitVec 32 := 0#32
  let v872 : BitVec 1 := Scalar.cmpi .ne v871 c0_i32_818
  let v876 : BitVec 1 := Scalar.andi v875 v872
  let v877 : BitVec 32 := Scalar.addi v871 v870
  let v878 : BitVec 32 := Scalar.select v876 v877 v871
  let c1_i32_827 : BitVec 32 := 1#32
  let v881 : BitVec 32 := Scalar.muli v878 c1_i32_827
  let v882 : BitVec 32 := Scalar.addi c0_i32_828 v881
  v882.toNat
def k0_dev35 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_831 : BitVec 32 := 7#32
  let v889 : BitVec 32 := Scalar.addi v2 c7_i32_831
  let c8_i32_832 : BitVec 32 := 8#32
  let c0_i32_833 : BitVec 32 := 0#32
  let v890 : BitVec 1 := Scalar.cmpi .eq c8_i32_832 c0_i32_833
  let c1_i32_834 : BitVec 32 := 1#32
  let v891 : BitVec 32 := Scalar.select v890 c1_i32_834 c8_i32_832
  let v892 : BitVec 32 := Scalar.remsi v889 v891
  let c0_i32_836 : BitVec 32 := 0#32
  let v894 : BitVec 1 := Scalar.cmpi .slt v892 c0_i32_836
  let c0_i32_837 : BitVec 32 := 0#32
  let v895 : BitVec 1 := Scalar.cmpi .slt v891 c0_i32_837
  let v896 : BitVec 1 := Scalar.xori v894 v895
  let c0_i32_835 : BitVec 32 := 0#32
  let v893 : BitVec 1 := Scalar.cmpi .ne v892 c0_i32_835
  let v897 : BitVec 1 := Scalar.andi v896 v893
  let v898 : BitVec 32 := Scalar.addi v892 v891
  let v899 : BitVec 32 := Scalar.select v897 v898 v892
  let c1_i32_844 : BitVec 32 := 1#32
  let v902 : BitVec 32 := Scalar.muli v899 c1_i32_844
  let v903 : BitVec 32 := Scalar.addi c0_i32_845 v902
  v903.toNat
def k0_off9 (d0 : Dev nD) (c0_i32_848 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v910 : BitVec 32 := Scalar.subi v2 c0_i32_848
  let c1_i32_849 : BitVec 32 := 1#32
  let v911 : BitVec 32 := Scalar.subi v910 c1_i32_849
  let c8_i32_850 : BitVec 32 := 8#32
  let c0_i32_851 : BitVec 32 := 0#32
  let v912 : BitVec 1 := Scalar.cmpi .eq c8_i32_850 c0_i32_851
  let c1_i32_852 : BitVec 32 := 1#32
  let v913 : BitVec 32 := Scalar.select v912 c1_i32_852 c8_i32_850
  let v914 : BitVec 32 := Scalar.remsi v911 v913
  let c0_i32_854 : BitVec 32 := 0#32
  let v916 : BitVec 1 := Scalar.cmpi .slt v914 c0_i32_854
  let c0_i32_855 : BitVec 32 := 0#32
  let v917 : BitVec 1 := Scalar.cmpi .slt v913 c0_i32_855
  let v918 : BitVec 1 := Scalar.xori v916 v917
  let c0_i32_853 : BitVec 32 := 0#32
  let v915 : BitVec 1 := Scalar.cmpi .ne v914 c0_i32_853
  let v919 : BitVec 1 := Scalar.andi v918 v915
  let v920 : BitVec 32 := Scalar.addi v914 v913
  let v921 : BitVec 32 := Scalar.select v919 v920 v914
  let c64_i32_857 : BitVec 32 := 64#32
  let v923 : BitVec 32 := Scalar.muli v921 c64_i32_857
  let c0_i32_864 : BitVec 32 := 0#32
  ![v923.toNat, 0]
def k0_off10 (d0 : Dev nD) (c0_i32_974 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1050 : BitVec 32 := Scalar.subi v2 c0_i32_974
  let c1_i32_975 : BitVec 32 := 1#32
  let v1051 : BitVec 32 := Scalar.subi v1050 c1_i32_975
  let c8_i32_976 : BitVec 32 := 8#32
  let c0_i32_977 : BitVec 32 := 0#32
  let v1052 : BitVec 1 := Scalar.cmpi .eq c8_i32_976 c0_i32_977
  let c1_i32_978 : BitVec 32 := 1#32
  let v1053 : BitVec 32 := Scalar.select v1052 c1_i32_978 c8_i32_976
  let v1054 : BitVec 32 := Scalar.remsi v1051 v1053
  let c0_i32_980 : BitVec 32 := 0#32
  let v1056 : BitVec 1 := Scalar.cmpi .slt v1054 c0_i32_980
  let c0_i32_981 : BitVec 32 := 0#32
  let v1057 : BitVec 1 := Scalar.cmpi .slt v1053 c0_i32_981
  let v1058 : BitVec 1 := Scalar.xori v1056 v1057
  let c0_i32_979 : BitVec 32 := 0#32
  let v1055 : BitVec 1 := Scalar.cmpi .ne v1054 c0_i32_979
  let v1059 : BitVec 1 := Scalar.andi v1058 v1055
  let v1060 : BitVec 32 := Scalar.addi v1054 v1053
  let v1061 : BitVec 32 := Scalar.select v1059 v1060 v1054
  let c64_i32_983 : BitVec 32 := 64#32
  let v1063 : BitVec 32 := Scalar.muli v1061 c64_i32_983
  let c256_i32_990 : BitVec 32 := 256#32
  ![v1063.toNat, 256]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x2048, .f32⟩
  | .hbm, ⟨3, _⟩ => ⟨S2048x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.KernelIdeal.Windows.lean ====
/-
  Peers and windows of the fused matrix product over eight devices.

  Device `c` deals block row `q` of its partial product to device `q`, which adds the eight blocks, applies the
  activation and hands the finished block back to everyone. Here are the peers a transfer names, the rectangles of the
  three buffers a transfer or an access touches, and where an element of such a rectangle sits in its buffer.
-/
module

public import proofs.«01_k».proof.Proof.Gen.KernelIdeal
public import proofs.«01_k».proof.Proof.Gen.KernelIdeal.Skeleton
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.ValueIdx
open Idealize.SL.Sem

/-! ## Peers -/

set_option backward.proofsInPublic true in
/-- The device `j + 1` places after `c`: whom `c`'s transfer number `j` goes to. -/
def up (c : Dev nD) (j : Fin 7) : Dev nD := ⟨(c.val + j.val + 1) % 8, Nat.mod_lt _ (by decide)⟩
set_option backward.proofsInPublic true in
/-- The device `j + 1` places before `c`: whose transfer number `j` arrives at `c`. -/
def dn (c : Dev nD) (j : Fin 7) : Dev nD := ⟨(c.val + 7 - j.val) % 8, Nat.mod_lt _ (by decide)⟩

theorem up_dn : ∀ (c : Dev nD) (j : Fin 7), up (dn c j) j = c := by decide
theorem dn_up : ∀ (c : Dev nD) (j : Fin 7), dn (up c j) j = c := by decide
theorem dn_rev : ∀ (c : Dev nD) (j : Fin 7), dn c (Fin.rev j) = up c j := by decide
theorem up_rev : ∀ (c : Dev nD) (j : Fin 7), up c (Fin.rev j) = dn c j := by decide
theorem up_ne : ∀ (c : Dev nD) (j : Fin 7), up c j ≠ c := by decide
theorem up_inj : ∀ (c : Dev nD) (i j : Fin 7), up c i = up c j → i = j := by decide
theorem dn_ne : ∀ (c : Dev nD) (j : Fin 7), dn c j ≠ c := by decide
theorem up_cover : ∀ (c d : Dev nD), d ≠ c → ∃ j : Fin 7, d = up c j := by decide
theorem dn_cover : ∀ (c d : Dev nD), d ≠ c → ∃ j : Fin 7, d = dn c j := by decide

/-- Moving `j + 1` places along the mesh, both ways. -/
def shift (j : Fin 7) : Dev nD ≃ Dev nD := ⟨fun c => up c j, fun c => dn c j, fun c => dn_up c j, fun c => up_dn c j⟩

/-! ## The kernel's integer chains in closed form -/

theorem sdev1 : ∀ c : Dev nD, (⟨k0_dev1 c, k0_dev1_lt c⟩ : Dev nD) = up c 0 := by decide +kernel
theorem sdev2 : ∀ c : Dev nD, (⟨k0_dev2 c, k0_dev2_lt c⟩ : Dev nD) = up c 1 := by decide +kernel
theorem sdev3 : ∀ c : Dev nD, (⟨k0_dev3 c, k0_dev3_lt c⟩ : Dev nD) = up c 2 := by decide +kernel
theorem sdev4 : ∀ c : Dev nD, (⟨k0_dev4 c, k0_dev4_lt c⟩ : Dev nD) = up c 3 := by decide +kernel
theorem sdev5 : ∀ c : Dev nD, (⟨k0_dev5 c, k0_dev5_lt c⟩ : Dev nD) = up c 4 := by decide +kernel
theorem sdev6 : ∀ c : Dev nD, (⟨k0_dev6 c, k0_dev6_lt c⟩ : Dev nD) = up c 5 := by decide +kernel
theorem sdev7 : ∀ c : Dev nD, (⟨k0_dev7 c, k0_dev7_lt c⟩ : Dev nD) = up c 6 := by decide +kernel
theorem sdev8 : ∀ c : Dev nD, (⟨k0_dev8 c, k0_dev8_lt c⟩ : Dev nD) = up c 3 := by decide +kernel
theorem sdev9 : ∀ c : Dev nD, (⟨k0_dev9 c, k0_dev9_lt c⟩ : Dev nD) = up c 2 := by decide +kernel
theorem sdev10 : ∀ c : Dev nD, (⟨k0_dev10 c, k0_dev10_lt c⟩ : Dev nD) = up c 4 := by decide +kernel
theorem sdev11 : ∀ c : Dev nD, (⟨k0_dev11 c, k0_dev11_lt c⟩ : Dev nD) = up c 1 := by decide +kernel
theorem sdev12 : ∀ c : Dev nD, (⟨k0_dev12 c, k0_dev12_lt c⟩ : Dev nD) = up c 5 := by decide +kernel
theorem sdev13 : ∀ c : Dev nD, (⟨k0_dev13 c, k0_dev13_lt c⟩ : Dev nD) = up c 0 := by decide +kernel
theorem sdev14 : ∀ c : Dev nD, (⟨k0_dev14 c, k0_dev14_lt c⟩ : Dev nD) = up c 6 := by decide +kernel
theorem sdev15 : ∀ c : Dev nD, (⟨k0_dev15 c, k0_dev15_lt c⟩ : Dev nD) = up c 3 := by decide +kernel
theorem sdev16 : ∀ c : Dev nD, (⟨k0_dev16 c, k0_dev16_lt c⟩ : Dev nD) = up c 2 := by decide +kernel
theorem sdev17 : ∀ c : Dev nD, (⟨k0_dev17 c, k0_dev17_lt c⟩ : Dev nD) = up c 4 := by decide +kernel
theorem sdev18 : ∀ c : Dev nD, (⟨k0_dev18 c, k0_dev18_lt c⟩ : Dev nD) = up c 1 := by decide +kernel
theorem sdev19 : ∀ c : Dev nD, (⟨k0_dev19 c, k0_dev19_lt c⟩ : Dev nD) = up c 5 := by decide +kernel
theorem sdev20 : ∀ c : Dev nD, (⟨k0_dev20 c, k0_dev20_lt c⟩ : Dev nD) = up c 0 := by decide +kernel
theorem sdev21 : ∀ c : Dev nD, (⟨k0_dev21 c, k0_dev21_lt c⟩ : Dev nD) = up c 6 := by decide +kernel
theorem sdev22 : ∀ c : Dev nD, (⟨k0_dev22 c, k0_dev22_lt c⟩ : Dev nD) = up c 3 := by decide +kernel
theorem sdev23 : ∀ c : Dev nD, (⟨k0_dev23 c, k0_dev23_lt c⟩ : Dev nD) = up c 2 := by decide +kernel
theorem sdev24 : ∀ c : Dev nD, (⟨k0_dev24 c, k0_dev24_lt c⟩ : Dev nD) = up c 4 := by decide +kernel
theorem sdev25 : ∀ c : Dev nD, (⟨k0_dev25 c, k0_dev25_lt c⟩ : Dev nD) = up c 1 := by decide +kernel
theorem sdev26 : ∀ c : Dev nD, (⟨k0_dev26 c, k0_dev26_lt c⟩ : Dev nD) = up c 5 := by decide +kernel
theorem sdev27 : ∀ c : Dev nD, (⟨k0_dev27 c, k0_dev27_lt c⟩ : Dev nD) = up c 0 := by decide +kernel
theorem sdev28 : ∀ c : Dev nD, (⟨k0_dev28 c, k0_dev28_lt c⟩ : Dev nD) = up c 6 := by decide +kernel
theorem sdev29 : ∀ c : Dev nD, (⟨k0_dev29 c, k0_dev29_lt c⟩ : Dev nD) = up c 3 := by decide +kernel
theorem sdev30 : ∀ c : Dev nD, (⟨k0_dev30 c, k0_dev30_lt c⟩ : Dev nD) = up c 2 := by decide +kernel
theorem sdev31 : ∀ c : Dev nD, (⟨k0_dev31 c, k0_dev31_lt c⟩ : Dev nD) = up c 4 := by decide +kernel
theorem sdev32 : ∀ c : Dev nD, (⟨k0_dev32 c, k0_dev32_lt c⟩ : Dev nD) = up c 1 := by decide +kernel
theorem sdev33 : ∀ c : Dev nD, (⟨k0_dev33 c, k0_dev33_lt c⟩ : Dev nD) = up c 5 := by decide +kernel
theorem sdev34 : ∀ c : Dev nD, (⟨k0_dev34 c, k0_dev34_lt c⟩ : Dev nD) = up c 0 := by decide +kernel
theorem sdev35 : ∀ c : Dev nD, (⟨k0_dev35 c, k0_dev35_lt c⟩ : Dev nD) = up c 6 := by decide +kernel

/-- The rows of the partial product a transfer of the first column half takes: the receiver's. -/
theorem off1_eq : ∀ (c : Dev nD) (j : Fin 7), k0_off1 c (BitVec.ofNat 32 (1 + j.val)) = ![0, 64 * (up c j).val, 0] := by decide +kernel
/-- The same of the second column half. -/
theorem off2_eq : ∀ (c : Dev nD) (j : Fin 7), k0_off2 c (BitVec.ofNat 32 (1 + j.val)) = ![1, 64 * (up c j).val, 0] := by decide +kernel
/-- The rows of the result the arrival number `j` fills, first column half: the sender's. -/
theorem off9_eq : ∀ (c : Dev nD) (j : Fin 7), k0_off9 c (BitVec.ofNat 32 j.val) = ![64 * (dn c j).val, 0] := by decide +kernel
/-- The same of the second column half. -/
theorem off10_eq : ∀ (c : Dev nD) (j : Fin 7), k0_off10 c (BitVec.ofNat 32 j.val) = ![64 * (dn c j).val, 256] := by decide +kernel

/-! ## Windows of the three buffers, as sets of indices -/

/-- Which (column half, block row) an index of the partial product's buffer lies in. -/
def mkey (i : S2x512x256.Idx) : Fin 2 × Dev nD := (i 0, ⟨(i 1).val / 64, Nat.div_lt_of_lt_mul (i 1).isLt⟩)
/-- Which (column half, arrival number) an index of the landing buffer lies in. -/
def ikey (i : S2x7x64x256.Idx) : Fin 2 × Fin 7 := (i 0, i 1)
/-- Which (column half, block row) an index of the result lies in. -/
def okey (i : S512x512.Idx) : Fin 2 × Dev nD :=
  (⟨(i 1).val / 256, Nat.div_lt_of_lt_mul (i 1).isLt⟩, ⟨(i 0).val / 64, Nat.div_lt_of_lt_mul (i 0).isLt⟩)

/-- The indices a key function sends to `b`. -/
def fib {I B : Type} [Fintype I] [DecidableEq B] (key : I → B) (b : B) : Finset I := Finset.univ.filter fun i => key i = b

theorem mem_fib {I B : Type} [Fintype I] [DecidableEq B] {key : I → B} {b : B} {i : I} : i ∈ fib key b ↔ key i = b := by
  simp [fib]
theorem fib_disjoint {I B : Type} [Fintype I] [DecidableEq B] (key : I → B) (b b' : B) (h : b ≠ b') : Disjoint (fib key b) (fib key b') :=
  Finset.disjoint_left.mpr fun _ hi hi' => h ((mem_fib.mp hi).symm.trans (mem_fib.mp hi'))
theorem fib_cover {I B : Type} [Fintype I] [DecidableEq I] [Fintype B] [DecidableEq B] (key : I → B) : Finset.univ.biUnion (fib key) = Finset.univ :=
  Finset.eq_univ_iff_forall.mpr fun i => Finset.mem_biUnion.mpr ⟨key i, Finset.mem_univ _, mem_fib.mpr rfl⟩

abbrev MW (b : Fin 2 × Dev nD) : Finset S2x512x256.Idx := fib mkey b
abbrev IW (b : Fin 2 × Fin 7) : Finset S2x7x64x256.Idx := fib ikey b
abbrev OW (b : Fin 2 × Dev nD) : Finset S512x512.Idx := fib okey b

/-! ## The kernel's memrefs -/

abbrev aM : Memref sig .tc .vmem S512x256 .bf16 := Memref.whole cc0_stg0_0
abbrev bM : Memref sig .tc .vmem S256x512 .bf16 := Memref.whole cc0_stg1_0
abbrev oM : Memref sig .tc .vmem S512x512 .bf16 := Memref.whole cc0_stg2_0
abbrev mM : Memref sig .tc .vmem S2x512x256 .bf16 := Memref.whole cc0_scratch0
abbrev iM : Memref sig .tc .vmem S2x7x64x256 .bf16 := Memref.whole cc0_scratch1

/-- A window of the partial product, of the landing buffer and of the result, as the kernel spells them, at any offsets. -/
abbrev mWin (off : Fin 3 → Nat) (inb : ∀ a, off a + S1x64x256.size a ≤ S2x512x256.size a) : Memref sig .tc .vmem S64x256 .bf16 :=
  (mM.slice (Rect.unit (s := S2x512x256) off S1x64x256.size inb) (fun _ => rfl)).squeeze S64x256 squeezes_S1x64x256_S64x256
abbrev iWin (off : Fin 4 → Nat) (inb : ∀ a, off a + S1x1x64x256.size a ≤ S2x7x64x256.size a) : Memref sig .tc .vmem S64x256 .bf16 :=
  (iM.slice (Rect.unit (s := S2x7x64x256) off S1x1x64x256.size inb) (fun _ => rfl)).squeeze S64x256 squeezes_S1x1x64x256_S64x256
abbrev oWin (off : Fin 2 → Nat) (inb : ∀ a, off a + S64x256.size a ≤ S512x512.size a) : Memref sig .tc .vmem S64x256 .bf16 :=
  oM.slice (Rect.unit (s := S512x512) off S64x256.size inb) (fun _ => rfl)

abbrev mRect (off : Fin 3 → Nat) (inb : ∀ a, off a + S1x64x256.size a ≤ S2x512x256.size a) : Rect S2x512x256 :=
  Rect.unit (s := S2x512x256) off S1x64x256.size inb
abbrev iRect (off : Fin 4 → Nat) (inb : ∀ a, off a + S1x1x64x256.size a ≤ S2x7x64x256.size a) : Rect S2x7x64x256 :=
  Rect.unit (s := S2x7x64x256) off S1x1x64x256.size inb
abbrev oRect (off : Fin 2 → Nat) (inb : ∀ a, off a + S64x256.size a ≤ S512x512.size a) : Rect S512x512 :=
  Rect.unit (s := S512x512) off S64x256.size inb

/-! ## A window's elements are a fibre of the key -/

theorem div_iff {n d q : Nat} (hd : 0 < d) : n / d = q ↔ d * q ≤ n ∧ n < d * q + d := by
  rw [Nat.div_eq_iff hd]; constructor <;> rintro ⟨h1, h2⟩ <;> constructor <;> first | (rw [Nat.mul_comm]; omega) | (rw [Nat.mul_comm] at *; omega)

theorem mRect_set (h : Fin 2) (q : Dev nD) (inb) : (mRect ![h.val, 64 * q.val, 0] inb).set = MW (h, q) := by
  ext i
  rw [Rect.mem_set_unit, mem_fib]
  have h2 : (i 2).val < 256 := (i 2).isLt
  constructor
  · intro H
    have H0 := H 0; have H1 := H 1
    change h.val ≤ (i 0).val ∧ (i 0).val < h.val + 1 at H0
    change 64 * q.val ≤ (i 1).val ∧ (i 1).val < 64 * q.val + 64 at H1
    refine Prod.ext (Fin.ext ?_) (Fin.ext ?_)
    · show (i 0).val = h.val; omega
    · exact (div_iff (by decide)).mpr H1
  · intro H a
    have H0 : (i 0).val = h.val := congrArg (fun p : Fin 2 × Dev nD => p.1.val) H
    have H1 : (i 1).val / 64 = q.val := congrArg (fun p : Fin 2 × Dev nD => p.2.val) H
    fin_cases a
    · show h.val ≤ (i 0).val ∧ (i 0).val < h.val + 1; omega
    · exact (div_iff (by decide)).mp H1
    · show 0 ≤ (i 2).val ∧ (i 2).val < 0 + 256; omega

theorem iRect_set (h : Fin 2) (j : Fin 7) (inb) : (iRect ![h.val, j.val, 0, 0] inb).set = IW (h, j) := by
  ext i
  rw [Rect.mem_set_unit, mem_fib]
  have h2 : (i 2).val < 64 := (i 2).isLt
  have h3 : (i 3).val < 256 := (i 3).isLt
  constructor
  · intro H
    have H0 := H 0; have H1 := H 1
    change h.val ≤ (i 0).val ∧ (i 0).val < h.val + 1 at H0
    change j.val ≤ (i 1).val ∧ (i 1).val < j.val + 1 at H1
    refine Prod.ext (Fin.ext ?_) (Fin.ext ?_)
    · show (i 0).val = h.val; omega
    · show (i 1).val = j.val; omega
  · intro H a
    have H0 : (i 0).val = h.val := congrArg (fun p : Fin 2 × Fin 7 => p.1.val) H
    have H1 : (i 1).val = j.val := congrArg (fun p : Fin 2 × Fin 7 => p.2.val) H
    fin_cases a
    · show h.val ≤ (i 0).val ∧ (i 0).val < h.val + 1; omega
    · show j.val ≤ (i 1).val ∧ (i 1).val < j.val + 1; omega
    · show 0 ≤ (i 2).val ∧ (i 2).val < 0 + 64; omega
    · show 0 ≤ (i 3).val ∧ (i 3).val < 0 + 256; omega

theorem oRect_set (h : Fin 2) (q : Dev nD) (inb) : (oRect ![64 * q.val, 256 * h.val] inb).set = OW (h, q) := by
  ext i
  rw [Rect.mem_set_unit, mem_fib]
  constructor
  · intro H
    have H0 := H 0; have H1 := H 1
    change 64 * q.val ≤ (i 0).val ∧ (i 0).val < 64 * q.val + 64 at H0
    change 256 * h.val ≤ (i 1).val ∧ (i 1).val < 256 * h.val + 256 at H1
    exact Prod.ext (Fin.ext ((div_iff (by decide)).mpr H1)) (Fin.ext ((div_iff (by decide)).mpr H0))
  · intro H a
    have H0 : (i 1).val / 256 = h.val := congrArg (fun p : Fin 2 × Dev nD => p.1.val) H
    have H1 : (i 0).val / 64 = q.val := congrArg (fun p : Fin 2 × Dev nD => p.2.val) H
    fin_cases a
    · exact (div_iff (by decide)).mp H1
    · exact (div_iff (by decide)).mp H0

theorem mWin_set (h : Fin 2) (q : Dev nD) (inb) : (mWin ![h.val, 64 * q.val, 0] inb).view.set = MW (h, q) :=
  (View.set_reshape _ _).trans ((View.set_slice_whole cc0_scratch0 _).trans (mRect_set h q inb))
theorem iWin_set (h : Fin 2) (j : Fin 7) (inb) : (iWin ![h.val, j.val, 0, 0] inb).view.set = IW (h, j) :=
  (View.set_reshape _ _).trans ((View.set_slice_whole cc0_scratch1 _).trans (iRect_set h j inb))
theorem oWin_set (h : Fin 2) (q : Dev nD) (inb) : (oWin ![64 * q.val, 256 * h.val] inb).view.set = OW (h, q) :=
  (View.set_slice_whole cc0_stg2_0 _).trans (oRect_set h q inb)

/-! ## Where a window's element sits -/

set_option backward.proofsInPublic true in
/-- Row `r` of block row `q`. -/
def row (q : Dev nD) (r : Fin 64) : Fin 512 := ⟨64 * q.val + r.val, by have := q.isLt; have := r.isLt; change q.val < 8 at *; omega⟩
set_option backward.proofsInPublic true in
/-- Column `x` of column half `h`. -/
def col (h : Fin 2) (x : Fin 256) : Fin 512 := ⟨256 * h.val + x.val, by have := h.isLt; have := x.isLt; omega⟩

theorem mWin_emb (h : Fin 2) (q : Dev nD) (inb) (r : Fin 64) (x : Fin 256) :
    (mWin ![h.val, 64 * q.val, 0] inb).view.emb (ix2 r x) = ix3 h (row q r) x := by
  show (mRect ![h.val, 64 * q.val, 0] inb).emb (Shape.reshapeEquiv _ (ix2 r x)) = _
  rw [reshapeEquiv_ix2_1ab]
  funext a; refine Fin.ext ?_
  rw [Rect.emb_apply]
  fin_cases a
  · show h.val + 1 * 0 = h.val; omega
  · show 64 * q.val + 1 * r.val = 64 * q.val + r.val; omega
  · show 0 + 1 * x.val = x.val; omega

theorem iWin_emb (h : Fin 2) (j : Fin 7) (inb) (r : Fin 64) (x : Fin 256) :
    (iWin ![h.val, j.val, 0, 0] inb).view.emb (ix2 r x) = ix4 h j r x := by
  show (iRect ![h.val, j.val, 0, 0] inb).emb (Shape.reshapeEquiv _ (ix2 r x)) = _
  rw [reshapeEquiv_ix2_11ab]
  funext a; refine Fin.ext ?_
  rw [Rect.emb_apply]
  fin_cases a
  · show h.val + 1 * 0 = h.val; omega
  · show j.val + 1 * 0 = j.val; omega
  · show 0 + 1 * r.val = r.val; omega
  · show 0 + 1 * x.val = x.val; omega

theorem oWin_emb (h : Fin 2) (q : Dev nD) (inb) (r : Fin 64) (x : Fin 256) :
    (oWin ![64 * q.val, 256 * h.val] inb).view.emb (ix2 r x) = ix2 (row q r) (col h x) := by
  show (oRect ![64 * q.val, 256 * h.val] inb).emb (ix2 r x) = _
  funext a; refine Fin.ext ?_
  rw [Rect.emb_apply]
  fin_cases a
  · show 64 * q.val + 1 * r.val = 64 * q.val + r.val; omega
  · show 256 * h.val + 1 * x.val = 256 * h.val + x.val; omega

end Cert.KernelIdeal.Run

end
-- ==== Proof.KernelIdeal.Protocol.lean ====
/-
  The protocol of the fused matrix product: its semaphore cells, what each carries, what each device owes.

  Every cell has one round. A device's barrier cell is paid one unit by each of the seven others, who hand over with it
  the landing slots and the result windows that the cell's owner will fill on them. A transfer's send cell gives back
  the source, its receive cell the filled destination, both with their contents.
-/
module

public import proofs.«01_k».proof.Proof.KernelIdeal.Windows
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' ghost state, with seven duty names a round. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer semaphore: its kind (0 the reduction's send, 1 its receive, 2 the hand-back's send, 3 its receive), the
    column half, the transfer's number. -/
abbrev XI : Type := Fin 4 × Fin 2 × Fin 7
/-- A semaphore of the protocol on one device: the barrier or a transfer's. -/
abbrev CX : Type := Unit ⊕ XI

abbrev barS : Sem sig := (SemArray.scalar (sig.barrier 0 rfl) : Sems sig S_).sem
set_option backward.proofsInPublic true in
def xsem (k : Fin 4) (h : Fin 2) (j : Fin 7) : DmaSem sig :=
  (⟨3 + 14 * k.val + 7 * h.val + j.val, by have := k.isLt; have := h.isLt; have := j.isLt; omega⟩ : Fin 59)

abbrev csem : CX → SemLoc sig
  | .inl _ => .reg barS
  | .inr (k, h, j) => .dma (xsem k h j)
abbrev kcell (ck : Dev nD × CX) : GSem nD τ sig := ((ck.1 : Thread nD τ), csem ck.2)

set_option backward.proofsInPublic true in
/-- Which of the protocol's semaphores a semaphore is. -/
def dec : SemLoc sig → Option CX
  | .reg s => if s = barS then some (.inl ()) else none
  | .dma (n : Fin 59) => if 3 ≤ n.val then some (.inr (⟨(n.val - 3) / 14, by have := n.isLt; omega⟩, ⟨(n.val - 3) % 14 / 7, by omega⟩, ⟨(n.val - 3) % 7, by omega⟩)) else none

theorem dec_csem : ∀ x : CX, dec (csem x) = some x := by decide +kernel
theorem csem_inj : Function.Injective csem := fun x y h => Option.some.inj ((dec_csem x).symm.trans ((congrArg dec h).trans (dec_csem y)))
theorem kcell_inj : Function.Injective kcell := by
  rintro ⟨c, x⟩ ⟨c', x'⟩ h
  have h1 : c = c' := congrArg (fun g : GSem nD τ sig => g.1.1) h
  have h2 : x = x' := csem_inj (congrArg (fun g : GSem nD τ sig => g.2) h)
  rw [h1, h2]

/-- The credit of one transfer: every transfer moves 64 rows of 256. -/
def N : ℕ := (iWin ![0, 0, 0, 0] (by decide)).view.dmaCredit
theorem N_pos : 0 < N := View.dmaCredit_pos _ (by decide)
theorem mWin_credit (off inb) : (mWin off inb).view.dmaCredit = N := rfl
theorem iWin_credit (off inb) : (iWin off inb).view.dmaCredit = N := rfl
theorem oWin_credit (off inb) : (oWin off inb).view.dmaCredit = N := rfl

def amt : CX → ℕ
  | .inl _ => 1
  | .inr _ => N

/-! ## Contents -/

section Contents
variable (A : Dev nD → Vec F S512x256 .bf16) (B : Dev nD → Vec F S256x512 .bf16)

/-- Device `c`'s partial product, one column half after the other. -/
def mineV (c : Dev nD) : S2x512x256.Idx → Elt F .bf16 := fun i =>
  if (mkey i).1 = 0 then k0_pay3 (k0_pay1 (A c)) (B c) (ix3 0 (i 1) (i 2)) else k0_pay4 (k0_pay1 (A c)) (B c) (ix3 0 (i 1) (i 2))

/-- What has landed at device `c`: in slot `j` the block row `c` of the partial product of `dn c j`. -/
def inboxV (c : Dev nD) : S2x7x64x256.Idx → Elt F .bf16 := fun i => mineV A B (dn c (i 1)) (ix3 (i 0) (row c (i 2)) (i 3))

/-- Block row `c` of device `c`'s own partial product. -/
def ownRow (c : Dev nD) (h : Fin 2) : Vec F S1x64x256 .bf16 := fun y => mineV A B c (ix3 h (row c (y 1)) (y 2))
/-- One landing slot. -/
def slot (c : Dev nD) (h : Fin 2) (j : Fin 7) : Vec F S1x1x64x256 .bf16 := fun y => inboxV A B c (ix4 h j (y 2) (y 3))

/-- The finished block of device `q`, column half 0 and column half 1: the kernel's own chain of additions. -/
def blk0 (q : Dev nD) : FVec F S64x256 .bf16 :=
  k0_pay9 (k0_pay8 (k0_pay7 (k0_pay6 (k0_pay5 (ownRow A B q 0)) (slot A B q 0 0) (slot A B q 0 1)) (slot A B q 0 2) (slot A B q 0 3))
    (slot A B q 0 4) (slot A B q 0 5)) (slot A B q 0 6)
def blk1 (q : Dev nD) : FVec F S64x256 .bf16 :=
  k0_pay13 (k0_pay12 (k0_pay11 (k0_pay10 (ownRow A B q 1) (slot A B q 1 0)) (slot A B q 1 1) (slot A B q 1 2)) (slot A B q 1 3) (slot A B q 1 4))
    (slot A B q 1 5) (slot A B q 1 6)
def blk (q : Dev nD) (h : Fin 2) : FVec F S64x256 .bf16 := if h = 0 then blk0 A B q else blk1 A B q

/-- The result, the same on every device: block row `q`, column half `h` is `q`'s finished block. -/
def outV : S512x512.Idx → Elt F .bf16 := fun i =>
  blk A B (okey i).2 (okey i).1 (ix2 ⟨(i 0).val % 64, Nat.mod_lt _ (by decide)⟩ ⟨(i 1).val % 256, Nat.mod_lt _ (by decide)⟩)

end Contents

/-! ## Windows owned -/

def mPts (c : Dev nD) (h : Fin 2) (q : Dev nD) (f : S2x512x256.Idx → Elt F .bf16) : sProp 𝕄 :=
  ((c : Thread nD τ).loc cc0_scratch0) ↦[MW (h, q)]{fullShare} f
def iPts (c : Dev nD) (h : Fin 2) (j : Fin 7) (f : S2x7x64x256.Idx → Elt F .bf16) : sProp 𝕄 :=
  ((c : Thread nD τ).loc cc0_scratch1) ↦[IW (h, j)]{fullShare} f
def oPts (c : Dev nD) (h : Fin 2) (q : Dev nD) (f : S512x512.Idx → Elt F .bf16) : sProp 𝕄 :=
  ((c : Thread nD τ).loc cc0_stg2_0) ↦[OW (h, q)]{fullShare} f
/-- Device `c`'s own result window, the share its transfer number `j` reads. -/
def oShr (c : Dev nD) (h : Fin 2) (j : Fin 7) (f : S512x512.Idx → Elt F .bf16) : sProp 𝕄 :=
  ((c : Thread nD τ).loc cc0_stg2_0) ↦[OW (h, c)]{Transfers.dealOf fullShare Finset.univ j} f

omit [FloatOps F] in
instance mPts_storable (c h q f) : BI.Storable (upEmb : UEmb _ 𝕄) (mPts (F := F) c h q f) := by unfold mPts; infer_instance
omit [FloatOps F] in
instance iPts_storable (c h j f) : BI.Storable (upEmb : UEmb _ 𝕄) (iPts (F := F) c h j f) := by unfold iPts; infer_instance
omit [FloatOps F] in
instance oPts_storable (c h q f) : BI.Storable (upEmb : UEmb _ 𝕄) (oPts (F := F) c h q f) := by unfold oPts; infer_instance
omit [FloatOps F] in
instance oShr_storable (c h j f) : BI.Storable (upEmb : UEmb _ 𝕄) (oShr (F := F) c h j f) := by unfold oShr; infer_instance

/-! ## The schedule -/

/-- What `p` hands `q` with its barrier signal number `d`: the places on `p` that `q` will fill. -/
def grant (p q : Dev nD) (d : Fin 7) : sProp 𝕄 :=
  iprop((∃ f, iPts (F := F) p 0 (Fin.rev d) f) ∗ (∃ f, iPts (F := F) p 1 (Fin.rev d) f) ∗ (∃ f, oPts (F := F) p 0 q f) ∗ (∃ f, oPts (F := F) p 1 q f))

omit [FloatOps F] in
instance grant_storable (p q d) : BI.Storable (upEmb : UEmb _ 𝕄) (grant (F := F) p q d) := by unfold grant; infer_instance

section Sched
variable (A : Dev nD → Vec F S512x256 .bf16) (B : Dev nD → Vec F S256x512 .bf16)

/-- What a transfer's cell hands its owner. -/
def xPay (c : Dev nD) : XI → sProp 𝕄
  | (⟨0, _⟩, h, j) => mPts c h (up c j) (mineV A B c)
  | (⟨1, _⟩, h, j) => iPts c h j (inboxV A B c)
  | (⟨2, _⟩, h, j) => oShr c h j (outV A B)
  | (⟨_ + 3, _⟩, h, j) => oPts c h (dn c j) (outV A B)

instance xPay_storable (c x) : BI.Storable (upEmb : UEmb _ 𝕄) (xPay A B c x) := by
  unfold xPay; split <;> infer_instance

def cellPay (c : Dev nD) (d : Fin 7) : Option CX → sProp 𝕄
  | none => iprop(emp)
  | some (.inl _) => grant (dn c d) c d
  | some (.inr x) => xPay A B c x

instance cellPay_storable (c d x) : BI.Storable (upEmb : UEmb _ 𝕄) (cellPay A B c d x) := by
  unfold cellPay; split <;> infer_instance

def cellDuties : Option CX → Finset (Fin 7)
  | none => ∅
  | some (.inl _) => Finset.univ
  | some (.inr _) => {0}
def cellAmt : Option CX → ℕ
  | none => 1
  | some x => amt x

theorem amt_pos (x : CX) : 0 < amt x := by cases x; exact Nat.one_pos; exact N_pos

def rd : Rounds.Schedule (GSem nD τ sig) (Fin 7) 𝕄 where
  duties g r := if r = 0 ∧ g.1.2 = .tc then cellDuties (dec g.2) else ∅
  unitless _ := False
  amount g _ _ := cellAmt (dec g.2)
  payload g _ d := cellPay A B g.1.1 d (dec g.2)
  amount_pos g _ _ _ := by
    cases dec g.2 with
    | none => exact Nat.one_pos
    | some x => exact amt_pos x

instance rd_storable (g : GSem nD τ sig) (r : ℕ) (d : Fin 7) : BI.Storable (upEmb : UEmb _ 𝕄) ((rd A B).payload g r d) := by
  show BI.Storable upEmb (cellPay A B g.1.1 d (dec g.2)); infer_instance

theorem duties_cell (c : Dev nD) (x : CX) : (rd A B).duties (kcell (c, x)) 0 = cellDuties (some x) := by
  show (if (0 : ℕ) = 0 ∧ (kcell (c, x)).1.2 = .tc then cellDuties (dec (csem x)) else ∅) = _
  rw [if_pos ⟨rfl, rfl⟩, dec_csem]
theorem duties_later (g : GSem nD τ sig) (r : ℕ) (hr : 1 ≤ r) : (rd A B).duties g r = ∅ := by
  show (if r = 0 ∧ _ then _ else _) = _
  exact if_neg fun h => by omega
theorem amount_cell (c : Dev nD) (x : CX) (r d) : (rd A B).amount (kcell (c, x)) r d = amt x := by
  show cellAmt (dec (csem x)) = _; rw [dec_csem]; rfl
theorem payload_cell (c : Dev nD) (x : CX) (r d) : (rd A B).payload (kcell (c, x)) r d = cellPay A B c d (some x) := by
  show cellPay A B c d (dec (csem x)) = _; rw [dec_csem]
/-- The units a wait on the cell takes: all seven of a barrier, one transfer's credit of another. -/
def full : CX → ℕ
  | .inl _ => 7
  | .inr _ => N
theorem expect_cell (c : Dev nD) (x : CX) : (rd A B).expect (kcell (c, x)) 0 = full x := by
  unfold Schedule.expect Schedule.amountOf
  rw [duties_cell, Finset.sum_congr rfl fun d _ => amount_cell A B c x 0 d]
  cases x with
  | inl _ => show ∑ d : Fin 7, 1 = 7; decide
  | inr x => show ∑ d ∈ ({0} : Finset (Fin 7)), N = N; rw [Finset.sum_singleton]
theorem rest_bar (c : Dev nD) (u : Unit) : bigSep ((rd A B).duties (kcell (c, .inl u)) 0 \ ∅) (fun d => (rd A B).payload (kcell (c, .inl u)) 0 d)
    = bigSep Finset.univ fun d => grant (dn c d) c d := by
  rw [Finset.sdiff_empty, duties_cell]
  exact bigSep_congr fun d _ => payload_cell A B c _ 0 d
theorem rest_xfer (c : Dev nD) (x : XI) : bigSep ((rd A B).duties (kcell (c, .inr x)) 0 \ ∅) (fun d => (rd A B).payload (kcell (c, .inr x)) 0 d)
    = xPay A B c x := by
  rw [Finset.sdiff_empty, duties_cell]
  show bigSep {(0 : Fin 7)} _ = _
  rw [bigSep_singleton, payload_cell]; rfl

end Sched

/-! ## What a device owes -/

/-- The order the kernel issues its transfers in. -/
abbrev jo : List (Fin 7) := [3, 2, 4, 1, 5, 0, 6]
/-- The order it signals the barriers and waits in. -/
abbrev js : List (Fin 7) := [0, 1, 2, 3, 4, 5, 6]

abbrev xo (c : Dev nD) (k : Fin 4) (h : Fin 2) (l : List (Fin 7)) : List (Dev nD × CX) := l.map fun j => (up c j, .inr (k, h, j))
abbrev bo (c : Dev nD) (l : List (Fin 7)) : List (Dev nD × CX) := l.map fun j => (up c j, .inl ())
/-- Everything a device pays on other devices, in the order it does. -/
abbrev oweAg (c : Dev nD) : List (Dev nD × CX) := xo c 3 0 jo ++ (xo c 3 1 jo ++ [])
abbrev oweRs (c : Dev nD) : List (Dev nD × CX) := xo c 1 0 jo ++ (xo c 1 1 jo ++ oweAg c)
abbrev ow (c : Dev nD) : List (Dev nD × CX) := bo c js ++ oweRs c

def tal : List (Dev nD × CX) → CellTallies nD τ sig Unit
  | [] => 0
  | ck :: l => tal l + tallyAt (kcell ck) () (amt ck.2)

theorem tal_cell (l : List (Dev nD × CX)) (ck : Dev nD × CX) : tal l (kcell ck) () = l.countP (fun x => decide (x = ck)) * amt ck.2 := by
  induction l with
  | nil => show (0 : ℕ) = _; rw [List.countP_nil, Nat.zero_mul]
  | cons x l ih =>
    show tal l (kcell ck) () + tallyAt (kcell x) () (amt x.2) (kcell ck) () = _
    rw [ih, tallyAt_apply]
    by_cases h : x = ck
    · subst h; rw [if_pos ⟨rfl, rfl⟩, List.countP_cons_of_pos (by simp), Nat.add_mul, Nat.one_mul]
    · rw [if_neg (fun h' => h (kcell_inj h'.1.symm)), List.countP_cons_of_neg (by simpa using h), Nat.add_zero]
theorem tal_pos (l : List (Dev nD × CX)) {g : GSem nD τ sig} {u : Unit} (h : 0 < tal l g u) : ∃ ck ∈ l, g = kcell ck := by
  induction l with
  | nil => exact absurd h (Nat.lt_irrefl 0)
  | cons x l ih =>
    change 0 < tal l g u + tallyAt (kcell x) () (amt x.2) g u at h
    by_cases hx : g = kcell x
    · exact ⟨x, List.mem_cons_self, hx⟩
    · rw [tallyAt_apply, if_neg (fun h' => hx h'.1), Nat.add_zero] at h
      obtain ⟨ck, hm, he⟩ := ih h
      exact ⟨ck, List.mem_cons_of_mem _ hm, he⟩

/-! ## Levels -/

def LL (g : GSem nD τ sig) : Finset Unit := if g.1.2 = .tc then {()} else ∅
def clv : CX → ℕ
  | .inl _ => 1
  | .inr (k, _, _) => if k = 1 then 2 else if k = 3 then 3 else 0
def lv (g : GSem nD τ sig) (_ : Unit) : ℕ := match dec g.2 with | none => 0 | some x => clv x

theorem LL_of_ne (g : GSem nD τ sig) (h : g.1.2 ≠ .tc) : LL g = ∅ := if_neg h
theorem LL_tc (c : Dev nD) (sm : SemLoc sig) : LL ((c : Thread nD τ), sm) = {()} := if_pos rfl
theorem lv_cell (ck : Dev nD × CX) (u) : lv (kcell ck) u = clv ck.2 := by
  show (match dec (csem ck.2) with | none => 0 | some x => clv x) = _
  rw [dec_csem]

omit [FloatOps F] in
/-- A device may wait at a semaphore below everything it still owes. -/
theorem mayWait_list (c : Dev nD) (sm : SemLoc sig) (l : List (Dev nD × CX)) (hl : ∀ ck ∈ l, lv ((c : Thread nD τ), sm) () < clv ck.2) :
    (levAts LL lv : sProp 𝕄) ⊢ MayWait (c : Thread nD τ) sm () (tal l) :=
  MayOwe.of_cut (L := LL) (lev := lv) (lv ((c : Thread nD τ), sm) ())
    (fun p hp => by rw [Finset.mem_singleton.mp hp, LL_tc]; exact Finset.mem_singleton_self _)
    (fun g u hg => by obtain ⟨ck, _, rfl⟩ := tal_pos l hg; exact Finset.mem_singleton_self _)
    (fun p hp => by rw [Finset.mem_singleton.mp hp])
    (fun g u hg => by obtain ⟨ck, hm, rfl⟩ := tal_pos l hg; rw [lv_cell]; exact hl ck hm)

/-! ## The state every step shares -/

section Env
variable (A : Dev nD → Vec F S512x256 .bf16) (B : Dev nD → Vec F S256x512 .bf16)

/-- Every cell's invariant, and that its round 0 is reached. -/
def records (K : Dev nD × CX → ℕ) : sProp 𝕄 :=
  iprop((bigSep Finset.univ fun ck => cellInv ER (rd A B) (K ck) (kcell ck)) ∗ bigSep Finset.univ fun ck => reached ER (kcell ck) 0)

instance records_persistent (K) : BI.Persistent (records A B K) := by unfold records; infer_instance

theorem records_inv (K) (ck) : records A B K ⊢ cellInv ER (rd A B) (K ck) (kcell ck) :=
  sep_elim_left.trans (bigSep_elim (Finset.mem_univ ck))
theorem records_reached (K) (ck) : records A B K ⊢ reached ER (kcell ck) 0 :=
  sep_elim_right.trans (bigSep_elim (Finset.mem_univ ck))

/-- The records, the levels, and what is still owed. -/
def env (c : Dev nD) (K : Dev nD × CX → ℕ) (l : List (Dev nD × CX)) : sProp 𝕄 :=
  iprop(records A B K ∗ levAts LL lv ∗ ∃ W, owes (c : Thread nD τ) (tal l) W)

end Env

/-- Separating conjunction along a list. -/
def starL {X : Type} (Φ : X → sProp 𝕄) : List X → sProp 𝕄
  | [] => iprop(emp)
  | x :: l => iprop(Φ x ∗ starL Φ l)

omit [FloatOps F] in
theorem starL_eq {X : Type} [DecidableEq X] (Φ : X → sProp 𝕄) (l : List X) (h : l.Nodup) : starL Φ l = bigSep l.toFinset Φ := by
  induction l with
  | nil => exact bigSep_empty.symm
  | cons x l ih =>
    rw [List.nodup_cons] at h
    rw [List.toFinset_cons, bigSep_insert (by simpa using h.1), ← ih h.2]; rfl
omit [FloatOps F] in
theorem starL_perm {X : Type} [DecidableEq X] (Φ : X → sProp 𝕄) (l l' : List X) (h : l.Nodup) (h' : l'.Nodup) (hl : l.toFinset = l'.toFinset) :
    starL Φ l = starL Φ l' := by rw [starL_eq Φ l h, starL_eq Φ l' h', hl]
omit [FloatOps F] in
theorem starL_univ {X : Type} [DecidableEq X] [Fintype X] (Φ : X → sProp 𝕄) (l : List X) (h : l.Nodup) (hc : l.toFinset = Finset.univ) :
    starL Φ l = bigSep Finset.univ Φ := by rw [starL_eq Φ l h, hc]

end Cert.KernelIdeal.Run

end
-- ==== Proof.KernelIdeal.Steps.lean ====
/-
  One lemma per kind of step of the fused matrix product.

  A step is stated backwards: what the rest of the program needs afterwards gives what the step needs before. The
  resources of a family of like steps (the seven transfers of a column half, say) stand in a list that a step takes its
  head from, and what it leaves goes to the head of another.
-/
module

public import proofs.«01_k».proof.Proof.KernelIdeal.Protocol

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Contents of windows -/

section Contents
variable (A : Dev nD → Vec F S512x256 .bf16) (B : Dev nD → Vec F S256x512 .bf16)

theorem inbox_write (c : Dev nD) (h : Fin 2) (j : Fin 7) (inb inb') (fd : S2x7x64x256.Idx → Elt F .bf16) (i : S2x7x64x256.Idx) (hi : i ∈ IW (h, j)) :
    (iWin ![h.val, j.val, 0, 0] inb).view.write (Elt F) fd ((mWin ![h.val, 64 * (up c j).val, 0] inb').view.read (Elt F) (mineV A B c)) Finset.univ i
      = inboxV A B (up c j) i := by
  obtain ⟨a, b, r, x, rfl⟩ : ∃ (a : Fin 2) (b : Fin 7) (r : Fin 64) (x : Fin 256), i = ix4 a b r x := ⟨_, _, _, _, eq_ix4 i⟩
  have hk := mem_fib.mp hi
  obtain rfl : a = h := congrArg Prod.fst hk
  obtain rfl : b = j := congrArg Prod.snd hk
  have hv : inboxV A B (up c b) (ix4 a b r x) = mineV A B c (ix3 a (row (up c b) r) x) := by
    show mineV A B (dn (up c b) b) _ = _
    rw [dn_up]
  rw [hv, ← iWin_emb a b inb r x, View.write_emb_of_mem _ _ (Finset.mem_univ _), View.read_apply, mWin_emb]
  rfl

theorem out_write (c : Dev nD) (h : Fin 2) (inb inb') (fd : S512x512.Idx → Elt F .bf16) (i : S512x512.Idx) (hi : i ∈ OW (h, c)) :
    (oWin ![64 * c.val, 256 * h.val] inb).view.write (Elt F) fd ((oWin ![64 * c.val, 256 * h.val] inb').view.read (Elt F) (outV A B)) Finset.univ i
      = outV A B i := by
  rw [← oWin_set h c inb] at hi
  obtain ⟨y, -, rfl⟩ := Finset.mem_map.mp hi
  rw [View.write_emb_of_mem _ _ (Finset.mem_univ _), View.read_apply]
  rfl

theorem out_store (c : Dev nD) (h : Fin 2) (inb : ∀ a, (![64 * c.val, 256 * h.val] : Fin 2 → Nat) a + S64x256.size a ≤ S512x512.size a) (fd : S512x512.Idx → Elt F .bf16) (w : S64x256.Idx → Elt F .bf16) (hw : w = blk A B c h)
    (i : S512x512.Idx) (hi : i ∈ OW (h, c)) :
    (oWin ![64 * c.val, 256 * h.val] inb).view.write (Elt F) fd w Finset.univ i = outV A B i := by
  subst hw
  rw [← oWin_set h c inb] at hi
  obtain ⟨y, -, rfl⟩ := Finset.mem_map.mp hi
  obtain ⟨r, x, rfl⟩ : ∃ (r : Fin 64) (x : Fin 256), y = ix2 r x := ⟨_, _, eq_ix2 y⟩
  rw [View.write_emb_of_mem _ _ (Finset.mem_univ _), oWin_emb]
  show blk A B c h (ix2 r x) = _
  unfold outV
  have k1 : (okey (ix2 (row c r) (col h x))).1 = h := Fin.ext (by have := x.isLt; show (256 * h.val + x.val) / 256 = h.val; omega)
  have k2 : (okey (ix2 (row c r) (col h x))).2 = c := Fin.ext (by have := r.isLt; show (64 * c.val + r.val) / 64 = c.val; omega)
  rw [k1, k2]
  congr 2
  · exact Fin.ext (by have := r.isLt; show r.val = (64 * c.val + r.val) % 64; omega)
  · exact Fin.ext (by have := x.isLt; show x.val = (256 * h.val + x.val) % 256; omega)

theorem own_read (c : Dev nD) (h : Fin 2) (inb) :
    (mM.access (mRect ![h.val, 64 * c.val, 0] inb)).read (Elt F) (mineV A B c) = ownRow A B c h := by
  funext y
  rw [View.read_apply]
  show mineV A B c ((mRect ![h.val, 64 * c.val, 0] inb).emb y) = mineV A B c (ix3 h (row c (y 1)) (y 2))
  refine congrArg _ (funext fun a => Fin.ext ?_)
  have h0 : (y 0).val < 1 := (y 0).isLt
  rw [Rect.emb_apply]
  fin_cases a
  · show h.val + 1 * (y 0).val = h.val; omega
  · show 64 * c.val + 1 * (y 1).val = 64 * c.val + (y 1).val; omega
  · show 0 + 1 * (y 2).val = (y 2).val; omega

theorem slot_read (c : Dev nD) (h : Fin 2) (j : Fin 7) (inb) :
    (iM.access (iRect ![h.val, j.val, 0, 0] inb)).read (Elt F) (inboxV A B c) = slot A B c h j := by
  funext y
  rw [View.read_apply]
  show inboxV A B c ((iRect ![h.val, j.val, 0, 0] inb).emb y) = inboxV A B c (ix4 h j (y 2) (y 3))
  refine congrArg _ (funext fun a => Fin.ext ?_)
  have h0 : (y 0).val < 1 := (y 0).isLt
  have h1 : (y 1).val < 1 := (y 1).isLt
  rw [Rect.emb_apply]
  fin_cases a
  · show h.val + 1 * (y 0).val = h.val; omega
  · show j.val + 1 * (y 1).val = j.val; omega
  · show 0 + 1 * (y 2).val = (y 2).val; omega
  · show 0 + 1 * (y 3).val = (y 3).val; omega

end Contents

/-! ## Steps -/

section Steps
variable (A : Dev nD → Vec F S512x256 .bf16) (B : Dev nD → Vec F S256x512 .bf16) (c : Dev nD) (K : Dev nD × CX → ℕ)

abbrev xcell (d : Dev nD) (k : Fin 4) (h : Fin 2) (j : Fin 7) : GSem nD τ sig := kcell (d, .inr (k, h, j))
abbrev bcell (d : Dev nD) : GSem nD τ sig := kcell (d, .inl ())

/-- What a device waits on a transfer's cell with, and what it has after. -/
def tok (k : Fin 4) (h : Fin 2) (j : Fin 7) : sProp 𝕄 :=
  iprop(cred (tallyAt (xcell c k h j) () N) ∗ atPos ER (xcell c k h j) 0 ∅ 0)
def got (k : Fin 4) (h : Fin 2) (j : Fin 7) : sProp 𝕄 :=
  iprop(xPay A B c (k, h, j) ∗ atPos ER (xcell c k h j) 1 ∅ 0)
/-- What its barrier signal number `j` spends. -/
def sigTodo (j : Fin 7) : sProp 𝕄 := iprop(grant c (up c j) j ∗ dutyTok ER (bcell (up c j)) 0 j)
/-- The tokens a transfer of the reduction spends, and one of the hand-back. -/
def rsTok (h : Fin 2) (j : Fin 7) : sProp 𝕄 :=
  iprop(dutyTok ER (xcell c 0 h j) 0 0 ∗ dutyTok ER (xcell (up c j) 1 h j) 0 0 ∗ atPos ER (xcell c 0 h j) 0 ∅ 0)
def agTok (h : Fin 2) (j : Fin 7) : sProp 𝕄 :=
  iprop(dutyTok ER (xcell c 2 h j) 0 0 ∗ dutyTok ER (xcell (up c j) 3 h j) 0 0 ∗ atPos ER (xcell c 2 h j) 0 ∅ 0)
/-- All that a transfer of the reduction spends. -/
def rsTodo (h : Fin 2) (j : Fin 7) : sProp 𝕄 := iprop(mPts c h (up c j) (mineV A B c) ∗ (∃ f, iPts (up c j) h j f) ∗ rsTok c h j)
/-- What a transfer of the hand-back spends, but for its share of the source. -/
def agPre (h : Fin 2) (j : Fin 7) : sProp 𝕄 := iprop((∃ f, oPts (up c j) h c f) ∗ agTok c h j)
def agTodo (h : Fin 2) (j : Fin 7) : sProp 𝕄 := iprop(oShr c h j (outV A B) ∗ agPre c h j)
def aPts (f : S512x256.Idx → Elt F .bf16) : sProp 𝕄 := (c : Thread nD τ).loc cc0_stg0_0 ↦{fullShare} f
def bPts (f : S256x512.Idx → Elt F .bf16) : sProp 𝕄 := (c : Thread nD τ).loc cc0_stg1_0 ↦{fullShare} f
def mAll (f : S2x512x256.Idx → Elt F .bf16) : sProp 𝕄 := (c : Thread nD τ).loc cc0_scratch0 ↦{fullShare} f

variable {A B c K}

theorem sig_payload (c : Dev nD) (j : Fin 7) : grant (F := F) c (up c j) j = (rd A B).payload (bcell (up c j)) 0 j := by
  rw [payload_cell]
  show _ = grant (dn (up c j) j) (up c j) j
  rw [dn_up]

theorem step_signal {α : Type} {Q : α → sProp 𝕄} {R : sProp 𝕄}
    {n : Dev nD} {j : Fin 7} {l : List (Fin 7)} {X : List (Dev nD × CX)} {kk : PUnit → Prog (TpuEff nD τ sig (Elt F) Λ₀ .tc) α} {u : ℕ}
    (hn : n = up c j) (hu : u = 1)
    (H : iprop(env A B c K (bo c l ++ X) ∗ starL (sigTodo c) l ∗ R) ⊢ WP c (kk ⟨⟩) Q) :
    iprop(env A B c K (bo c (j :: l) ++ X) ∗ starL (sigTodo c) (j :: l) ∗ R) ⊢ WP c (.op (.semSignal (n : Thread nD τ) barS u) kk) Q := by
  subst hn hu
  simp only [starL]
  unfold env sigTodo
  iintro ⟨⟨#HR, #Hl, %W, HO⟩, ⟨⟨Hg, Htok⟩, Hs⟩, Hrest⟩
  iapply (Rounds.wp_signal 𝒱₀ ER (rd A B) (c : Thread nD τ) none (dst := (up c j : Thread nD τ)) (sem := barS) (r := 0) (d := j) (κ := K (up c j, .inl ()))
      (by rw [show (((up c j : Thread nD τ), SemLoc.reg barS) : GSem nD τ sig) = bcell (up c j) from rfl, duties_cell]; exact Finset.mem_univ _)
      (amount_cell A B (up c j) (.inl ()) 0 j) () (O₀ := tal (bo c (j :: l) ++ X)) (tal (bo c l ++ X)) rfl (W := W)) $$ [HO Htok Hg]
  · isplitr; · iapply (records_inv A B K (up c j, .inl ())); iexact HR
    isplitl [HO]; · iexact HO
    isplitl [Htok]; · iexact Htok
    isplitl [Hg]
    · iapply (Entails.of_eq (sig_payload c j)); iexact Hg
    iapply (records_reached A B K (up c j, .inl ())); iexact HR
  iintro HO
  iapply H
  isplitl [HO]
  · unfold env
    isplitr; · iexact HR
    isplitr; · iexact Hl
    iexists W; iexact HO
  isplitl [Hs]; · iexact Hs
  iexact Hrest

theorem step_barrier {α : Type} {Q : α → sProp 𝕄} {R : sProp 𝕄}
    {X : List (Dev nD × CX)} {kk : PUnit → Prog (TpuEff nD τ sig (Elt F) Λ₀ .tc) α} {u : ℕ} (hu : u = 7)
    (hX : ∀ ck ∈ X, 1 < clv ck.2)
    (H : iprop(env A B c K X ∗ ((bigSep Finset.univ fun d => grant (dn c d) c d) ∗ atPos ER (bcell c) 1 ∅ 0) ∗ R) ⊢ WP c (kk ⟨⟩) Q) :
    iprop(env A B c K X ∗ (cred (tallyAt (bcell c) () 7) ∗ atPos ER (bcell c) 0 ∅ 0) ∗ R) ⊢ WP c (.op (.semWait barS u) kk) Q := by
  subst hu
  unfold env
  iintro ⟨⟨#HR, #Hl, %W, HO⟩, ⟨Hc, Hat⟩, Hrest⟩
  iapply (Rounds.wp_wait_rest_token 𝒱₀ ER (rd A B) (c : Thread nD τ) none (sm := .reg barS) (κ := K (c, .inl ()))
      (wpE_semWait_eq 𝒱₀ (c : Thread nD τ) none Set.univ) (Set.mem_univ _) () (O := tal X) (W := W) (R := 0) (m := 0) (T := ∅)
      (by rw [Nat.zero_add]; exact (expect_cell A B c (.inl ())).symm)) $$ [Hc HO Hat]
  · isplitr; · iapply (records_inv A B K (c, .inl ())); iexact HR
    isplitl [Hc]; · iexact Hc
    isplitl [HO]; · iexact HO
    isplitr
    · iapply (mayWait_list c (.reg barS) X (fun ck h => by rw [show lv ((c : Thread nD τ), SemLoc.reg barS) () = 1 from lv_cell (c, .inl ()) ()]; exact hX ck h)); iexact Hl
    iexact Hat
  iintro ⟨HO, Hat, -, Hpay⟩
  ihave Hp := (Entails.of_eq (rest_bar A B c ())) $$ Hpay
  iapply H
  isplitl [HO]
  · unfold env
    isplitr; · iexact HR
    isplitr; · iexact Hl
    iexists _; iexact HO
  isplitl [Hp Hat]; · isplitl [Hp] <;> iassumption
  iexact Hrest

theorem step_wait {α : Type} {Q : α → sProp 𝕄} {R : sProp 𝕄}
    {X : List (Dev nD × CX)} {k : Fin 4} {h : Fin 2} {j : Fin 7} {l d : List (Fin 7)} {sm : DmaSem sig}
    {src dst : Memref sig .tc .vmem S64x256 .bf16} {h1 : src.view.WordExact} {h2 : dst.view.WordExact}
    {kk : PUnit → Prog (TpuEff nD τ sig (Elt F) Λ₀ .tc) α}
    (hsm : sm = xsem k h j) (hN : dst.view.dmaCredit = N) (hX : ∀ ck ∈ X, clv (.inr (k, h, j)) < clv ck.2)
    (H : iprop(env A B c K X ∗ starL (tok c k h) l ∗ starL (got A B c k h) (j :: d) ∗ R) ⊢ WP c (kk ⟨⟩) Q) :
    iprop(env A B c K X ∗ starL (tok c k h) (j :: l) ∗ starL (got A B c k h) d ∗ R) ⊢ WP c (.op (.waitDma2 sm src dst h1 h2) kk) Q := by
  subst hsm
  simp only [starL] at H ⊢
  unfold tok
  unfold env
  iintro ⟨⟨#HR, #Hl, %W, HO⟩, ⟨⟨Hc, Hat⟩, Hs⟩, Hd, Hrest⟩
  iapply (Rounds.wp_wait_rest_token 𝒱₀ ER (rd A B) (c : Thread nD τ) none (sm := .dma (xsem k h j)) (κ := K (c, .inr (k, h, j))) (k' := N)
      (fun K' => (wpE_waitDma2_eq 𝒱₀ (c : Thread nD τ) none Set.univ K').trans (by rw [hN])) (Set.mem_univ _) () (O := tal X) (W := W) (R := 0) (m := 0) (T := ∅)
      (by rw [Nat.zero_add]; exact (expect_cell A B c (.inr (k, h, j))).symm)) $$ [Hc HO Hat]
  · isplitr; · iapply (records_inv A B K (c, .inr (k, h, j))); iexact HR
    isplitl [Hc]; · iexact Hc
    isplitl [HO]; · iexact HO
    isplitr
    · iapply (mayWait_list c (.dma (xsem k h j)) X (fun ck hm => by
        rw [show lv ((c : Thread nD τ), SemLoc.dma (xsem k h j)) () = clv (.inr (k, h, j)) from lv_cell (c, .inr (k, h, j)) ()]; exact hX ck hm)); iexact Hl
    iexact Hat
  iintro ⟨HO, Hat, -, Hpay⟩
  ihave Hp := (Entails.of_eq (rest_xfer A B c (k, h, j))) $$ Hpay
  iapply H
  isplitl [HO]
  · unfold env
    isplitr; · iexact HR
    isplitr; · iexact Hl
    iexists _; iexact HO
  isplitl [Hs]; · iexact Hs
  isplitl [Hp Hat Hd]
  · isplitl [Hp Hat]
    · unfold got; isplitl [Hp] <;> iassumption
    iexact Hd
  iexact Hrest

theorem step_rs {α : Type} {Q : α → sProp 𝕄} {R : sProp 𝕄}
    {X : List (Dev nD × CX)} {h : Fin 2} {j : Fin 7} {l d : List (Fin 7)} {n : Dev nD} {sS sR : DmaSem sig} {off ioff} {inb inb'}
    {hsc : (iWin ioff inb' : Memref sig (Dev.tc n : Thread nD τ).2.kind .vmem S64x256 .bf16).view.ref.isScScratch = false}
    {hsrc : (mWin off inb).view.WordExact} {hdst : (iWin ioff inb').view.WordExact}
    {hsem : DmaTarget.Typed .vmem (.dma sR) (.remote (Dev.tc n : Thread nD τ) (iWin ioff inb') (.dma sS) hsc)}
    {kk : PUnit → Prog (TpuEff nD τ sig (Elt F) Λ₀ .tc) α}
    (hn : n = up c j) (hoff : off = ![h.val, 64 * (up c j).val, 0]) (hioff : ioff = ![h.val, j.val, 0, 0]) (hS : sS = xsem 0 h j) (hR : sR = xsem 1 h j)
    (H : iprop(env A B c K (xo c 1 h l ++ X) ∗ starL (rsTodo A B c h) l ∗ starL (tok c 0 h) (j :: d) ∗ R) ⊢ WP c (kk ⟨⟩) Q) :
    iprop(env A B c K (xo c 1 h (j :: l) ++ X) ∗ starL (rsTodo A B c h) (j :: l) ∗ starL (tok c 0 h) d ∗ R)
      ⊢ WP c (.op (.enqueueDma (mWin off inb) (.remote (Dev.tc n : Thread nD τ) (iWin ioff inb') (.dma sS) hsc) (.dma sR) hsrc hdst hsem) kk) Q := by
  subst hn hoff hioff hS hR
  simp only [starL] at H ⊢
  unfold rsTodo rsTok mPts iPts
  unfold env
  iintro ⟨⟨#HR, #Hl, %W, HO⟩, ⟨⟨Hm, ⟨%fd, Hi⟩, Ht, Ht', Hat⟩, Hs⟩, Hd, Hrest⟩
  iapply (Rounds.wp_send_pointsTo 𝒱₀ ER (rd A B) (c : Thread nD τ) none (c' := (Dev.tc (up c j) : Thread nD τ))
      (src := mWin ![h.val, 64 * (up c j).val, 0] inb) (dst := iWin ![h.val, j.val, 0, 0] inb')
      (κ₁ := K (c, .inr (0, h, j))) (κ₂ := K (up c j, .inr (1, h, j)))
      (r₁ := 0) (r₂ := 0) (d₁ := 0) (d₂ := 0) (fs := mineV A B c) (fd := fd) (q := fullShare) (sS := .dma (xsem 0 h j)) (sem := .dma (xsem 1 h j))
      (by rw [show (((c : Thread nD τ), SemLoc.dma (xsem 0 h j)) : GSem nD τ sig) = xcell c 0 h j from rfl, duties_cell]; exact Finset.mem_singleton_self _)
      (by rw [show (((Dev.tc (up c j) : Thread nD τ), SemLoc.dma (xsem 1 h j)) : GSem nD τ sig) = xcell (up c j) 1 h j from rfl, duties_cell]; exact Finset.mem_singleton_self _)
      () () N rfl (amount_cell A B c (.inr (0, h, j)) 0 0) (amount_cell A B (up c j) (.inr (1, h, j)) 0 0)
      (O₀ := tal (xo c 1 h (j :: l) ++ X)) (tal (xo c 1 h l ++ X)) rfl (W := W)
      (by
        rw [show (((c : Thread nD τ), SemLoc.dma (xsem 0 h j)) : GSem nD τ sig) = xcell c 0 h j from rfl, payload_cell, mWin_set]
        exact .rfl)
      (by
        rw [show (((Dev.tc (up c j) : Thread nD τ), SemLoc.dma (xsem 1 h j)) : GSem nD τ sig) = xcell (up c j) 1 h j from rfl, payload_cell, iWin_set]
        exact Entails.of_eq (pointsTo_congr fun i hi => inbox_write A B c h j inb' inb fd i hi))) $$ [HO Ht Ht' Hm Hi]
  · isplitr; · iapply (records_inv A B K (c, .inr (0, h, j))); iexact HR
    isplitr; · iapply (records_inv A B K (up c j, .inr (1, h, j))); iexact HR
    isplitl [Hm]; · rw [mWin_set]; iexact Hm
    isplitl [Hi]; · rw [iWin_set]; iexact Hi
    isplitl [HO]; · iexact HO
    isplitl [Ht]; · iexact Ht
    isplitr; · iapply (records_reached A B K (c, .inr (0, h, j))); iexact HR
    isplitl [Ht']; · iexact Ht'
    iapply (records_reached A B K (up c j, .inr (1, h, j))); iexact HR
  iintro ⟨Hc, HO⟩
  iapply H
  isplitl [HO]
  · unfold env
    isplitr; · iexact HR
    isplitr; · iexact Hl
    iexists _; iexact HO
  isplitl [Hs]; · iexact Hs
  isplitl [Hc Hat Hd]
  · isplitl [Hc Hat]
    · unfold tok; isplitl [Hc] <;> iassumption
    iexact Hd
  iexact Hrest

theorem step_ag {α : Type} {Q : α → sProp 𝕄} {R : sProp 𝕄}
    {X : List (Dev nD × CX)} {h : Fin 2} {j : Fin 7} {l d : List (Fin 7)} {n : Dev nD} {sS sR : DmaSem sig} {off} {inb inb'}
    {hsc : (oWin off inb' : Memref sig (Dev.tc n : Thread nD τ).2.kind .vmem S64x256 .bf16).view.ref.isScScratch = false}
    {hsrc : (oWin off inb).view.WordExact} {hdst : (oWin off inb').view.WordExact}
    {hsem : DmaTarget.Typed .vmem (.dma sR) (.remote (Dev.tc n : Thread nD τ) (oWin off inb') (.dma sS) hsc)}
    {kk : PUnit → Prog (TpuEff nD τ sig (Elt F) Λ₀ .tc) α}
    (hn : n = up c j) (hoff : off = ![64 * c.val, 256 * h.val]) (hS : sS = xsem 2 h j) (hR : sR = xsem 3 h j)
    (H : iprop(env A B c K (xo c 3 h l ++ X) ∗ starL (agTodo A B c h) l ∗ starL (tok c 2 h) (j :: d) ∗ R) ⊢ WP c (kk ⟨⟩) Q) :
    iprop(env A B c K (xo c 3 h (j :: l) ++ X) ∗ starL (agTodo A B c h) (j :: l) ∗ starL (tok c 2 h) d ∗ R)
      ⊢ WP c (.op (.enqueueDma (oWin off inb) (.remote (Dev.tc n : Thread nD τ) (oWin off inb') (.dma sS) hsc) (.dma sR) hsrc hdst hsem) kk) Q := by
  subst hn hoff hS hR
  simp only [starL] at H ⊢
  unfold agTodo agPre agTok oShr oPts
  unfold env
  iintro ⟨⟨#HR, #Hl, %W, HO⟩, ⟨⟨Hm, ⟨%fd, Hi⟩, Ht, Ht', Hat⟩, Hs⟩, Hd, Hrest⟩
  iapply (Rounds.wp_send_pointsTo 𝒱₀ ER (rd A B) (c : Thread nD τ) none (c' := (Dev.tc (up c j) : Thread nD τ))
      (src := oWin ![64 * c.val, 256 * h.val] inb) (dst := oWin ![64 * c.val, 256 * h.val] inb')
      (κ₁ := K (c, .inr (2, h, j))) (κ₂ := K (up c j, .inr (3, h, j)))
      (r₁ := 0) (r₂ := 0) (d₁ := 0) (d₂ := 0) (fs := outV A B) (fd := fd) (q := Transfers.dealOf fullShare Finset.univ j)
      (sS := .dma (xsem 2 h j)) (sem := .dma (xsem 3 h j))
      (by rw [show (((c : Thread nD τ), SemLoc.dma (xsem 2 h j)) : GSem nD τ sig) = xcell c 2 h j from rfl, duties_cell]; exact Finset.mem_singleton_self _)
      (by rw [show (((Dev.tc (up c j) : Thread nD τ), SemLoc.dma (xsem 3 h j)) : GSem nD τ sig) = xcell (up c j) 3 h j from rfl, duties_cell]; exact Finset.mem_singleton_self _)
      () () N rfl (amount_cell A B c (.inr (2, h, j)) 0 0) (amount_cell A B (up c j) (.inr (3, h, j)) 0 0)
      (O₀ := tal (xo c 3 h (j :: l) ++ X)) (tal (xo c 3 h l ++ X)) rfl (W := W)
      (by
        rw [show (((c : Thread nD τ), SemLoc.dma (xsem 2 h j)) : GSem nD τ sig) = xcell c 2 h j from rfl, payload_cell, oWin_set]
        exact .rfl)
      (by
        rw [show (((Dev.tc (up c j) : Thread nD τ), SemLoc.dma (xsem 3 h j)) : GSem nD τ sig) = xcell (up c j) 3 h j from rfl, payload_cell, oWin_set]
        show _ ⊢ oPts (up c j) h (dn (up c j) j) (outV A B)
        rw [dn_up]
        exact Entails.of_eq (pointsTo_congr fun i hi => out_write A B c h inb' inb fd i hi))) $$ [HO Ht Ht' Hm Hi]
  · isplitr; · iapply (records_inv A B K (c, .inr (2, h, j))); iexact HR
    isplitr; · iapply (records_inv A B K (up c j, .inr (3, h, j))); iexact HR
    isplitl [Hm]; · rw [oWin_set]; iexact Hm
    isplitl [Hi]; · rw [oWin_set]; iexact Hi
    isplitl [HO]; · iexact HO
    isplitl [Ht]; · iexact Ht
    isplitr; · iapply (records_reached A B K (c, .inr (2, h, j))); iexact HR
    isplitl [Ht']; · iexact Ht'
    iapply (records_reached A B K (up c j, .inr (3, h, j))); iexact HR
  iintro ⟨Hc, HO⟩
  iapply H
  isplitl [HO]
  · unfold env
    isplitr; · iexact HR
    isplitr; · iexact Hl
    iexists _; iexact HO
  isplitl [Hs]; · iexact Hs
  isplitl [Hc Hat Hd]
  · isplitl [Hc Hat]
    · unfold tok; isplitl [Hc] <;> iassumption
    iexact Hd
  iexact Hrest

/-! ## Loads and stores -/

theorem hz2 : (![0, 0] : Fin 2 → Nat) = fun _ => 0 := funext fun a => by fin_cases a <;> rfl

theorem step_loadA {α : Type} {Q : α → sProp 𝕄} {R : sProp 𝕄}
    {G : sProp 𝕄} {fa : S512x256.Idx → Elt F .bf16} {inb} {hl} {kk : Vec F S512x256 .bf16 → Prog (TpuEff nD τ sig (Elt F) Λ₀ .tc) α}
    (H : iprop(G ∗ aPts c fa ∗ R) ⊢ WP c (kk fa) Q) :
    iprop(G ∗ aPts c fa ∗ R) ⊢ WP c (.op (.load aM (Rect.unit (s := S512x256) ![0, 0] S512x256.size inb).toLoadRect hl) kk) Q := by
  unfold aPts at H ⊢
  iintro ⟨HG, Ha, HR⟩
  iapply (wp_load 𝒱₀ (c : Thread nD τ) none Set.univ (m := aM) (Finset.subset_univ _)) $$ Ha; iintro Ha
  rw [show aM.view.readAt (Elt F) (Rect.unit (s := S512x256) ![0, 0] S512x256.size inb).toLoadRect fa = fa from Memref.readAt_unit_zero (Elt F) cc0_stg0_0 hz2 _ fa]
  iapply H
  isplitl [HG]; · iexact HG
  isplitl [Ha] <;> iassumption

theorem step_loadB {α : Type} {Q : α → sProp 𝕄} {R : sProp 𝕄}
    {G : sProp 𝕄} {fb : S256x512.Idx → Elt F .bf16} {inb} {hl} {kk : Vec F S256x512 .bf16 → Prog (TpuEff nD τ sig (Elt F) Λ₀ .tc) α}
    (H : iprop(G ∗ bPts c fb ∗ R) ⊢ WP c (kk fb) Q) :
    iprop(G ∗ bPts c fb ∗ R) ⊢ WP c (.op (.load bM (Rect.unit (s := S256x512) ![0, 0] S256x512.size inb).toLoadRect hl) kk) Q := by
  unfold bPts at H ⊢
  iintro ⟨HG, Ha, HR⟩
  iapply (wp_load 𝒱₀ (c : Thread nD τ) none Set.univ (m := bM) (Finset.subset_univ _)) $$ Ha; iintro Ha
  rw [show bM.view.readAt (Elt F) (Rect.unit (s := S256x512) ![0, 0] S256x512.size inb).toLoadRect fb = fb from Memref.readAt_unit_zero (Elt F) cc0_stg1_0 hz2 _ fb]
  iapply H
  isplitl [HG]; · iexact HG
  isplitl [Ha] <;> iassumption

/-- The partial product's buffer, read for nothing and then written over one column half. -/
theorem step_loadM {α : Type} {Q : α → sProp 𝕄} {R : sProp 𝕄}
    {G : sProp 𝕄} {f : S2x512x256.Idx → Elt F .bf16} {r : LoadRect S2x512x256} {hl} {kk : (r.shape.Idx → Elt F .bf16) → Prog (TpuEff nD τ sig (Elt F) Λ₀ .tc) α}
    (H : ∀ v, iprop(G ∗ mAll c f ∗ R) ⊢ WP c (kk v) Q) :
    iprop(G ∗ mAll c f ∗ R) ⊢ WP c (.op (.load mM r hl) kk) Q := by
  unfold mAll at H ⊢
  iintro ⟨HG, Ha, HR⟩
  iapply (wp_load 𝒱₀ (c : Thread nD τ) none Set.univ (m := mM) (Finset.subset_univ _)) $$ Ha; iintro Ha
  iapply (H _)
  isplitl [HG]; · iexact HG
  isplitl [Ha] <;> iassumption

theorem step_storeM {α : Type} {Q : α → sProp 𝕄} {R : sProp 𝕄}
    {G : sProp 𝕄} {f : S2x512x256.Idx → Elt F .bf16} {r : Rect S2x512x256} {w} {hx hm} {kk : PUnit → Prog (TpuEff nD τ sig (Elt F) Λ₀ .tc) α}
    (H : iprop(G ∗ mAll c ((mM.access r).write (Elt F) f w Finset.univ) ∗ R) ⊢ WP c (kk ⟨⟩) Q) :
    iprop(G ∗ mAll c f ∗ R) ⊢ WP c (.op (.store mM r w Finset.univ hx hm) kk) Q := by
  unfold mAll at H ⊢
  iintro ⟨HG, Ha, HR⟩
  iapply (wp_store 𝒱₀ (c : Thread nD τ) none Set.univ (m := mM) (r := r) (Mk := Finset.univ) (Finset.subset_univ _)) $$ Ha; iintro Ha
  iapply H
  isplitl [HG]; · iexact HG
  isplitl [Ha] <;> iassumption

theorem step_loadOwn {α : Type} {Q : α → sProp 𝕄} {R : sProp 𝕄}
    {G : sProp 𝕄} {h : Fin 2} {off} {inb} {hl} {kk : Vec F S1x64x256 .bf16 → Prog (TpuEff nD τ sig (Elt F) Λ₀ .tc) α}
    (hoff : off = ![h.val, 64 * c.val, 0])
    (H : iprop(G ∗ mPts c h c (mineV A B c) ∗ R) ⊢ WP c (kk (ownRow A B c h)) Q) :
    iprop(G ∗ mPts c h c (mineV A B c) ∗ R) ⊢ WP c (.op (.load mM (Rect.unit (s := S2x512x256) off S1x64x256.size inb).toLoadRect hl) kk) Q := by
  subst hoff
  rw [← own_read A B c h inb] at H
  unfold mPts at H ⊢
  iintro ⟨HG, Ha, HR⟩
  iapply (wp_load_rect 𝒱₀ (c : Thread nD τ) none Set.univ (m := mM) (r := mRect ![h.val, 64 * c.val, 0] inb)
    (by rw [View.set_slice_whole, mRect_set])) $$ Ha; iintro Ha
  iapply H
  isplitl [HG]; · iexact HG
  isplitl [Ha] <;> iassumption

theorem step_loadSlot {α : Type} {Q : α → sProp 𝕄} {R : sProp 𝕄}
    {G T : sProp 𝕄} {h : Fin 2} {j : Fin 7} {d : List (Fin 7)} {off} {inb} {hl} {kk : Vec F S1x1x64x256 .bf16 → Prog (TpuEff nD τ sig (Elt F) Λ₀ .tc) α}
    (hoff : off = ![h.val, j.val, 0, 0])
    (H : iprop(G ∗ T ∗ starL (got A B c 1 h) (j :: d) ∗ R) ⊢ WP c (kk (slot A B c h j)) Q) :
    iprop(G ∗ T ∗ starL (got A B c 1 h) (j :: d) ∗ R) ⊢ WP c (.op (.load iM (Rect.unit (s := S2x7x64x256) off S1x1x64x256.size inb).toLoadRect hl) kk) Q := by
  subst hoff
  rw [← slot_read A B c h j inb] at H
  simp only [starL] at H ⊢
  have e : got A B c 1 h j = iprop((((c : Thread nD τ).loc cc0_scratch1) ↦[IW (h, j)]{fullShare} inboxV A B c) ∗ atPos ER (xcell c 1 h j) 1 ∅ 0) := rfl
  rw [e] at H ⊢
  iintro ⟨HG, HT, ⟨⟨Ha, Hat⟩, Hd⟩, HR⟩
  iapply (wp_load_rect 𝒱₀ (c : Thread nD τ) none Set.univ (m := iM) (r := iRect ![h.val, j.val, 0, 0] inb)
    (by rw [View.set_slice_whole, iRect_set])) $$ Ha; iintro Ha
  iapply H
  isplitl [HG]; · iexact HG
  isplitl [HT]; · iexact HT
  isplitl [Ha Hat Hd]
  · isplitl [Ha Hat]
    · isplitl [Ha] <;> iassumption
    iexact Hd
  iexact HR

theorem step_loadO {α : Type} {Q : α → sProp 𝕄} {R : sProp 𝕄}
    {G : sProp 𝕄} {h : Fin 2} {off} {inb} {hl} {kk : Vec F S64x256 .bf16 → Prog (TpuEff nD τ sig (Elt F) Λ₀ .tc) α}
    (hoff : off = ![64 * c.val, 256 * h.val])
    (H : ∀ v, iprop(G ∗ (∃ f, oPts c h c f) ∗ R) ⊢ WP c (kk v) Q) :
    iprop(G ∗ (∃ f, oPts c h c f) ∗ R) ⊢ WP c (.op (.load oM (Rect.unit (s := S512x512) off S64x256.size inb).toLoadRect hl) kk) Q := by
  subst hoff
  unfold oPts at H ⊢
  iintro ⟨HG, ⟨%f, Ha⟩, HR⟩
  iapply (wp_load_rect 𝒱₀ (c : Thread nD τ) none Set.univ (m := oM) (r := oRect ![64 * c.val, 256 * h.val] inb)
    (by rw [View.set_slice_whole, oRect_set])) $$ Ha; iintro Ha
  iapply (H _)
  isplitl [HG]; · iexact HG
  isplitl [Ha]; · iexists f; iexact Ha
  iexact HR

theorem step_storeO {α : Type} {Q : α → sProp 𝕄} {R : sProp 𝕄}
    {G : sProp 𝕄} {h : Fin 2} {off} {inb} {w : S64x256.Idx → Elt F .bf16} {hx hm} {kk : PUnit → Prog (TpuEff nD τ sig (Elt F) Λ₀ .tc) α}
    (hoff : off = ![64 * c.val, 256 * h.val]) (hw : w = blk A B c h)
    (H : iprop(G ∗ oPts c h c (outV A B) ∗ R) ⊢ WP c (kk ⟨⟩) Q) :
    iprop(G ∗ (∃ f, oPts c h c f) ∗ R) ⊢ WP c (.op (.store oM (Rect.unit (s := S512x512) off S64x256.size inb) w Finset.univ hx hm) kk) Q := by
  subst hoff hw
  iintro ⟨HG, ⟨%f, Ha⟩, HR⟩
  have e : oPts c h c (outV A B)
      = oPts c h c ((oWin ![64 * c.val, 256 * h.val] inb).view.write (Elt F) f (blk A B c h : S64x256.Idx → Elt F .bf16) Finset.univ) :=
    pointsTo_congr fun i hi => (out_store A B c h inb f _ rfl i hi).symm
  rw [e] at H
  unfold oPts at H ⊢
  iapply (wp_store 𝒱₀ (c : Thread nD τ) none Set.univ (m := oM) (r := oRect ![64 * c.val, 256 * h.val] inb) (Mk := Finset.univ)
    (by rw [View.setOn_univ, View.set_slice_whole, oRect_set])) $$ Ha; iintro Ha
  iapply H
  isplitl [HG]; · iexact HG
  isplitl [Ha] <;> iassumption

end Steps

end Cert.KernelIdeal.Run

end
-- ==== Proof.KernelIdeal.Switch.lean ====
/-
  Between the phases of the fused matrix product: what one phase leaves, dealt out as what the next one takes.
-/
module

public import proofs.«01_k».proof.Proof.KernelIdeal.Steps
public import Idealize.ShloMosaic.Lib.Ring

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Assertions of this run. -/
abbrev SP (F : FTy → Type) := sProp (MT nD τ sig Unit (Elt F) ℕ UU ℕ)

/-! ## Bringing one resource to the front -/

section Pull
variable {G a b x R : SP F}

omit [FloatOps F] in
theorem under {P P' : SP F} (h : P ⊢ P') : iprop(G ∗ P) ⊢ iprop(G ∗ P') := by
  iintro ⟨HG, HP⟩; isplitl [HG]; · iexact HG
  iapply h; iexact HP
omit [FloatOps F] in
theorem front2 : iprop(a ∗ x ∗ R) ⊢ iprop(x ∗ a ∗ R) := by
  iintro ⟨Ha, Hx, HR⟩; isplitl [Hx]; · iexact Hx
  isplitl [Ha] <;> iassumption
omit [FloatOps F] in
/-- One place further along. -/
theorem front_succ {P P' : SP F} (h : P ⊢ iprop(x ∗ P')) : iprop(a ∗ P) ⊢ iprop(x ∗ a ∗ P') := (under h).trans front2

variable {a1 a2 a3 a4 a5 a6 a7 a8 a9 : SP F}
omit [FloatOps F] in
theorem pull2 : iprop(G ∗ a1 ∗ x ∗ R) ⊢ iprop(G ∗ x ∗ a1 ∗ R) := under front2
omit [FloatOps F] in
theorem pull3 : iprop(G ∗ a1 ∗ a2 ∗ x ∗ R) ⊢ iprop(G ∗ x ∗ a1 ∗ a2 ∗ R) := under (front_succ front2)
omit [FloatOps F] in
theorem pull4 : iprop(G ∗ a1 ∗ a2 ∗ a3 ∗ x ∗ R) ⊢ iprop(G ∗ x ∗ a1 ∗ a2 ∗ a3 ∗ R) := under (front_succ (front_succ front2))
omit [FloatOps F] in
theorem pull5 : iprop(G ∗ a1 ∗ a2 ∗ a3 ∗ a4 ∗ x ∗ R) ⊢ iprop(G ∗ x ∗ a1 ∗ a2 ∗ a3 ∗ a4 ∗ R) := under (front_succ (front_succ (front_succ front2)))
omit [FloatOps F] in
theorem pull6 : iprop(G ∗ a1 ∗ a2 ∗ a3 ∗ a4 ∗ a5 ∗ x ∗ R) ⊢ iprop(G ∗ x ∗ a1 ∗ a2 ∗ a3 ∗ a4 ∗ a5 ∗ R) :=
  under (front_succ (front_succ (front_succ (front_succ front2))))
omit [FloatOps F] in
theorem pull7 : iprop(G ∗ a1 ∗ a2 ∗ a3 ∗ a4 ∗ a5 ∗ a6 ∗ x ∗ R) ⊢ iprop(G ∗ x ∗ a1 ∗ a2 ∗ a3 ∗ a4 ∗ a5 ∗ a6 ∗ R) :=
  under (front_succ (front_succ (front_succ (front_succ (front_succ front2)))))
omit [FloatOps F] in
theorem pull8 : iprop(G ∗ a1 ∗ a2 ∗ a3 ∗ a4 ∗ a5 ∗ a6 ∗ a7 ∗ x ∗ R) ⊢ iprop(G ∗ x ∗ a1 ∗ a2 ∗ a3 ∗ a4 ∗ a5 ∗ a6 ∗ a7 ∗ R) :=
  under (front_succ (front_succ (front_succ (front_succ (front_succ (front_succ front2))))))
omit [FloatOps F] in
theorem pull9 : iprop(G ∗ a1 ∗ a2 ∗ a3 ∗ a4 ∗ a5 ∗ a6 ∗ a7 ∗ a8 ∗ x ∗ R) ⊢ iprop(G ∗ x ∗ a1 ∗ a2 ∗ a3 ∗ a4 ∗ a5 ∗ a6 ∗ a7 ∗ a8 ∗ R) :=
  under (front_succ (front_succ (front_succ (front_succ (front_succ (front_succ (front_succ front2)))))))
omit [FloatOps F] in
theorem pull10 : iprop(G ∗ a1 ∗ a2 ∗ a3 ∗ a4 ∗ a5 ∗ a6 ∗ a7 ∗ a8 ∗ a9 ∗ x ∗ R) ⊢ iprop(G ∗ x ∗ a1 ∗ a2 ∗ a3 ∗ a4 ∗ a5 ∗ a6 ∗ a7 ∗ a8 ∗ a9 ∗ R) :=
  under (front_succ (front_succ (front_succ (front_succ (front_succ (front_succ (front_succ (front_succ front2))))))))

omit [FloatOps F] in
/-- A used-up list goes, -/
theorem drop_nil {X : Type} {Φ : X → sProp 𝕄} : iprop(G ∗ starL Φ [] ∗ R) ⊢ iprop(G ∗ R) := by
  simp only [starL]; iintro ⟨HG, -, HR⟩; isplitl [HG] <;> iassumption
omit [FloatOps F] in
/-- and an empty one comes, to take what a family of steps leaves. -/
theorem add_nil {X : Type} {Φ : X → sProp 𝕄} : iprop(G ∗ a ∗ R) ⊢ iprop(G ∗ a ∗ starL Φ [] ∗ R) := by
  simp only [starL]; iintro ⟨HG, Ha, HR⟩
  isplitl [HG]; · iexact HG
  isplitl [Ha]; · iexact Ha
  isplitr; · iempintro
  iexact HR
omit [FloatOps F] in
/-- The list at the front, in another order. -/
theorem reorder {X : Type} [DecidableEq X] {Φ : X → sProp 𝕄} (l l' : List X) (h : l.Nodup) (h' : l'.Nodup) (hl : l.toFinset = l'.toFinset) :
    iprop(G ∗ starL Φ l ∗ R) ⊢ iprop(G ∗ starL Φ l' ∗ R) := by rw [starL_perm Φ l l' h h' hl]

end Pull

/-! ## Dealing out -/

omit [FloatOps F] in
/-- A family over the devices is one device's and that of the seven after it. -/
theorem bigSep_dev (c : Dev nD) (Φ : Dev nD → sProp 𝕄) : bigSep Finset.univ Φ = iprop(Φ c ∗ bigSep Finset.univ fun j => Φ (up c j)) := by
  have e : (Finset.univ : Finset (Dev nD)) = insert c ((Finset.univ : Finset (Fin 7)).map ⟨up c, fun i j h => up_inj c i j h⟩) := by
    ext d
    simp only [Finset.mem_univ, Finset.mem_insert, Finset.mem_map, Function.Embedding.coeFn_mk, true_and, true_iff]
    by_cases h : d = c
    · exact Or.inl h
    · obtain ⟨j, hj⟩ := up_cover c d h; exact Or.inr ⟨j, hj.symm⟩
  rw [e, bigSep_insert (by
    simp only [Finset.mem_map, Finset.mem_univ, Function.Embedding.coeFn_mk, true_and, not_exists]; exact fun j => up_ne c j), bigSep_map]
  rfl

omit [FloatOps F] in
theorem bigSep_rev (Φ : Fin 7 → sProp 𝕄) : bigSep Finset.univ Φ = bigSep Finset.univ fun j => Φ (Fin.rev j) :=
  (bigSep_univ_equiv Fin.revPerm Φ)

omit [FloatOps F] in
theorem star_js (Φ : Fin 7 → sProp 𝕄) : starL Φ js = bigSep Finset.univ Φ := starL_univ Φ js (by decide) (by decide)
omit [FloatOps F] in
theorem star_jo (Φ : Fin 7 → sProp 𝕄) : starL Φ jo = bigSep Finset.univ Φ := starL_univ Φ jo (by decide) (by decide)

omit [FloatOps F] in
/-- The partial product, by column half and block row. -/
theorem mAll_deal (c : Dev nD) (f : S2x512x256.Idx → Elt F .bf16) :
    mAll c f = iprop((mPts c 0 c f ∗ bigSep Finset.univ fun j => mPts c 0 (up c j) f) ∗ (mPts c 1 c f ∗ bigSep Finset.univ fun j => mPts c 1 (up c j) f)) := by
  unfold mAll
  rw [Ring.pointsTo_blocks (ℓ := (c : Thread nD τ).loc cc0_scratch0) (fun b => MW b) (fib_disjoint mkey) (fib_cover mkey) f, bigSep_univ_prod, BI.bigSep_fin_two,
    bigSep_dev c (fun q => ((c : Thread nD τ).loc cc0_scratch0) ↦[MW (0, q)]{fullShare} f),
    bigSep_dev c (fun q => ((c : Thread nD τ).loc cc0_scratch0) ↦[MW (1, q)]{fullShare} f)]
  rfl

omit [FloatOps F] in
/-- What the seven others granted device `c`, by the number of `c`'s transfer to them. -/
theorem grants_deal (c : Dev nD) : (bigSep Finset.univ fun d => grant (F := F) (dn c d) c d)
    = iprop((bigSep Finset.univ fun j => iprop(∃ f, iPts (F := F) (up c j) 0 j f)) ∗ (bigSep Finset.univ fun j => iprop(∃ f, iPts (F := F) (up c j) 1 j f))
      ∗ (bigSep Finset.univ fun j => iprop(∃ f, oPts (F := F) (up c j) 0 c f)) ∗ (bigSep Finset.univ fun j => iprop(∃ f, oPts (F := F) (up c j) 1 c f))) := by
  rw [bigSep_rev, ← bigSep_sep', ← bigSep_sep', ← bigSep_sep']
  refine bigSep_congr fun j _ => ?_
  unfold grant
  rw [dn_rev, Fin.rev_rev]

section Sw
variable {A : Dev nD → Vec F S512x256 .bf16} {B : Dev nD → Vec F S256x512 .bf16} {c : Dev nD} {G R : SP F}

theorem rs_deal (h : Fin 2) :
    iprop((bigSep Finset.univ fun j => mPts c h (up c j) (mineV A B c)) ∗ (bigSep Finset.univ fun j => iprop(∃ f, iPts (F := F) (up c j) h j f))
      ∗ bigSep Finset.univ (rsTok (F := F) c h)) = starL (rsTodo A B c h) jo := by
  rw [star_jo, ← bigSep_sep', ← bigSep_sep']; rfl
theorem ag_deal (h : Fin 2) :
    iprop((bigSep Finset.univ fun j => iprop(∃ f, oPts (F := F) (up c j) h c f)) ∗ bigSep Finset.univ (agTok (F := F) c h)) = starL (agPre (F := F) c h) jo := by
  rw [star_jo, ← bigSep_sep']; rfl

/-- The finished block, one share for each transfer of the hand-back. -/
theorem fill (h : Fin 2) : iprop(G ∗ starL (agPre c h) jo ∗ oPts c h c (outV A B) ∗ R) ⊢ iprop(G ∗ starL (agTodo A B c h) jo ∗ R) := by
  have e : starL (agTodo A B c h) jo = iprop(oPts c h c (outV A B) ∗ starL (agPre (F := F) c h) jo) := by
    rw [star_jo, star_jo]
    unfold agTodo
    rw [bigSep_sep']
    unfold oPts
    rw [Transfers.pointsTo_deal (Finset.univ : Finset (Fin 7)) ⟨0, Finset.mem_univ _⟩ fullShare]
    rfl
  rw [e]
  iintro ⟨HG, Hp, Ho, HR⟩
  isplitl [HG]; · iexact HG
  isplitl [Hp Ho]
  · isplitl [Ho] <;> iassumption
  iexact HR

/-- After the barrier. -/
theorem after_barrier {f} {W0 W1 V0 V1 own0 own1 at0 pa pb : SP F} (hf : f = mineV A B c) :
    iprop(G ∗ ((bigSep Finset.univ fun d => grant (F := F) (dn c d) c d) ∗ at0) ∗ mAll c f ∗ pb ∗ pa ∗ own0 ∗ own1
      ∗ bigSep Finset.univ (rsTok (F := F) c 0) ∗ bigSep Finset.univ (rsTok (F := F) c 1) ∗ bigSep Finset.univ (agTok (F := F) c 0) ∗ bigSep Finset.univ (agTok (F := F) c 1)
      ∗ W0 ∗ W1 ∗ V0 ∗ V1 ∗ emp)
    ⊢ iprop(G ∗ starL (rsTodo A B c 0) jo ∗ starL (tok (F := F) c 0 0) [] ∗ starL (rsTodo A B c 1) jo ∗ mPts c 0 c (mineV A B c) ∗ W0 ∗ own0
      ∗ starL (agPre (F := F) c 0) jo ∗ mPts c 1 c (mineV A B c) ∗ W1 ∗ own1 ∗ starL (agPre (F := F) c 1) jo ∗ V0 ∗ V1 ∗ (at0 ∗ pa ∗ pb) ∗ emp) := by
  subst hf
  rw [← rs_deal 0, ← rs_deal 1, ← ag_deal 0, ← ag_deal 1, grants_deal, mAll_deal]
  simp only [starL]
  iintro ⟨HG, ⟨⟨Hi0, Hi1, Ho0, Ho1⟩, Hat⟩, ⟨⟨Hm0, Hms0⟩, ⟨Hm1, Hms1⟩⟩, Hb, Ha, H0, H1, Hr0, Hr1, Hg0, Hg1, HW0, HW1, HV0, HV1, -⟩
  isplitl [HG]; · iexact HG
  isplitl [Hms0 Hi0 Hr0]
  · isplitl [Hms0]; · iexact Hms0
    isplitl [Hi0] <;> iassumption
  isplitr; · iempintro
  isplitl [Hms1 Hi1 Hr1]
  · isplitl [Hms1]; · iexact Hms1
    isplitl [Hi1] <;> iassumption
  isplitl [Hm0]; · iexact Hm0
  isplitl [HW0]; · iexact HW0
  isplitl [H0]; · iexact H0
  isplitl [Ho0 Hg0]
  · isplitl [Ho0] <;> iassumption
  isplitl [Hm1]; · iexact Hm1
  isplitl [HW1]; · iexact HW1
  isplitl [H1]; · iexact H1
  isplitl [Ho1 Hg1]
  · isplitl [Ho1] <;> iassumption
  isplitl [HV0]; · iexact HV0
  isplitl [HV1]; · iexact HV1
  isplitl [Hat Ha Hb]
  · isplitl [Hat]; · iexact Hat
    isplitl [Ha] <;> iassumption
  iempintro

end Sw

end Cert.KernelIdeal.Run

end
-- ==== Proof.KernelIdeal.Body.lean ====
/-
  The kernel's body on one device, operation by operation.

  The state is the environment (records, levels, what is still owed) and then a row of resources, the first of which the
  next operation works on. Between two phases the resource that comes next is pulled to the front.
-/
module

public import proofs.«01_k».proof.Proof.KernelIdeal.Switch

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem WP_ret {c : Dev nD} {α : Type} {P : sProp 𝕄} {Q : α → sProp 𝕄} {r : α} (h : P ⊢ Q r) : P ⊢ WP c (.ret r) Q := by
  unfold WP; rw [wp_ret]; exact h.trans fupd_intro
theorem WP_done {c : Dev nD} {α : Type} {P : sProp 𝕄} {Q : α → sProp 𝕄} {r : α} (h : P ⊢ |={Set.univ}=> Q r) : P ⊢ WP c (.ret r) Q := by
  unfold WP; rw [wp_ret]; exact h
theorem WP_bind {c : Dev nD} {α β : Type} {P : sProp 𝕄} {Q : β → sProp 𝕄} {p : Prog (TpuEff nD τ sig (Elt F) Λ₀ .tc) α}
    {k : α → Prog (TpuEff nD τ sig (Elt F) Λ₀ .tc) β} (h : P ⊢ WP c p fun r => WP c (k r) Q) : P ⊢ WP c (p >>= k) Q := by
  unfold WP; rw [wp_bind]; exact h

/-! ## The partial product -/

/-- Both halves stored, the buffer holds the partial product. -/
theorem mine_write (A : Dev nD → Vec F S512x256 .bf16) (B : Dev nD → Vec F S256x512 .bf16) (c : Dev nD) (f : S2x512x256.Idx → Elt F .bf16) (inb inb') :
    (mM.access (Rect.unit (s := S2x512x256) ![1, 0, 0] S1x512x256.size inb')).write (Elt F)
      ((mM.access (Rect.unit (s := S2x512x256) ![0, 0, 0] S1x512x256.size inb)).write (Elt F) f (k0_pay3 (k0_pay1 (A c)) (B c)) Finset.univ)
      (k0_pay4 (k0_pay1 (A c)) (B c)) Finset.univ = mineV A B c := by
  have emb0 : ∀ (r : Fin 512) (x : Fin 256), (mM.access (Rect.unit (s := S2x512x256) ![0, 0, 0] S1x512x256.size inb)).emb (ix3 0 r x) = ix3 0 r x := by
    intro r x; refine (funext fun a => Fin.ext ?_)
    show ((Rect.unit (s := S2x512x256) ![0, 0, 0] S1x512x256.size inb).emb (ix3 0 r x) a).val = _
    rw [Rect.emb_apply]
    fin_cases a
    · rfl
    · show 0 + 1 * r.val = r.val; omega
    · show 0 + 1 * x.val = x.val; omega
  have emb1 : ∀ (r : Fin 512) (x : Fin 256), (mM.access (Rect.unit (s := S2x512x256) ![1, 0, 0] S1x512x256.size inb')).emb (ix3 0 r x) = ix3 1 r x := by
    intro r x; refine (funext fun a => Fin.ext ?_)
    show ((Rect.unit (s := S2x512x256) ![1, 0, 0] S1x512x256.size inb').emb (ix3 0 r x) a).val = _
    rw [Rect.emb_apply]
    fin_cases a
    · rfl
    · show 0 + 1 * r.val = r.val; omega
    · show 0 + 1 * x.val = x.val; omega
  funext i
  obtain ⟨a, r, x, rfl⟩ : ∃ (a : Fin 2) (r : Fin 512) (x : Fin 256), i = ix3 a r x := ⟨_, _, _, eq_ix3 i⟩
  unfold mineV
  by_cases ha : a = 0
  · subst ha
    rw [View.write_of_not_mem, ← emb0 r x, View.write_emb_of_mem _ _ (Finset.mem_univ _), emb0 r x]
    · rfl
    · intro hm
      obtain ⟨y, -, hy⟩ := Finset.mem_map.mp hm
      obtain ⟨b, r', x', rfl⟩ : ∃ (b : Fin 1) (r' : Fin 512) (x' : Fin 256), y = ix3 b r' x' := ⟨_, _, _, eq_ix3 y⟩
      obtain rfl : b = 0 := Subsingleton.elim _ _
      rw [emb1] at hy
      exact absurd (congrFun hy 0) (show (1 : Fin 2) ≠ 0 by decide)
  · obtain rfl : a = 1 := by omega
    rw [← emb1 r x, View.write_emb_of_mem _ _ (Finset.mem_univ _), emb1 r x]
    rfl

/-! ## The whole body -/

section Run
variable {A : Dev nD → Vec F S512x256 .bf16} {B : Dev nD → Vec F S256x512 .bf16} {c : Dev nD} {K : Dev nD × CX → ℕ}

theorem drop_owed {k : Fin 4} {h : Fin 2} {X : List (Dev nD × CX)} {Y : Type} {Φ : Y → SP F} {R : SP F} :
    iprop(env A B c K (xo c k h [] ++ X) ∗ starL Φ [] ∗ R) ⊢ iprop(env A B c K X ∗ R) := drop_nil
theorem drop_signals {X : List (Dev nD × CX)} {Y : Type} {Φ : Y → SP F} {R : SP F} :
    iprop(env A B c K (bo c [] ++ X) ∗ starL Φ [] ∗ R) ⊢ iprop(env A B c K X ∗ R) := drop_nil

theorem owed_rs : ∀ (c : Dev nD), ∀ ck ∈ oweRs c, 1 < clv ck.2 := by decide
theorem owed_ag : ∀ (c : Dev nD), ∀ ck ∈ oweAg c, 2 < clv ck.2 := by decide
theorem owed_ag1 : ∀ (c : Dev nD), ∀ ck ∈ (xo c 3 1 jo ++ []), 2 < clv ck.2 := by decide
theorem owed_none {n : ℕ} : ∀ ck ∈ ([] : List (Dev nD × CX)), n < clv ck.2 := fun ck h => absurd h List.not_mem_nil

variable (A B c K) in
/-- What device `c` starts the body with, its partial product's buffer holding `f`. -/
def start (f : S2x512x256.Idx → Elt F .bf16) : SP F :=
  iprop(env A B c K (bo c js ++ oweRs c) ∗ starL (sigTodo c) js ∗ aPts c (A c) ∗ bPts c (B c) ∗ mAll c f
    ∗ (cred (tallyAt (bcell c) () 7) ∗ atPos ER (bcell c) 0 ∅ 0) ∗ (∃ g, oPts c 0 c g) ∗ (∃ g, oPts c 1 c g)
    ∗ bigSep Finset.univ (rsTok c 0) ∗ bigSep Finset.univ (rsTok c 1) ∗ bigSep Finset.univ (agTok c 0) ∗ bigSep Finset.univ (agTok c 1)
    ∗ starL (tok c 1 0) js ∗ starL (tok c 1 1) js ∗ starL (tok c 3 0) js ∗ starL (tok c 3 1) js ∗ emp)

variable (A B c K) in
/-- And what it ends with: each family of cells waited for, in the reverse of the order of the waits. -/
def finish : SP F :=
  iprop(env A B c K [] ∗ starL (got A B c 2 1) jo.reverse ∗ starL (got A B c 2 0) jo.reverse ∗ starL (got A B c 0 1) jo.reverse ∗ starL (got A B c 0 0) jo.reverse
    ∗ starL (got A B c 3 1) js.reverse ∗ starL (got A B c 3 0) js.reverse ∗ starL (got A B c 1 1) js.reverse ∗ mPts c 1 c (mineV A B c)
    ∗ starL (got A B c 1 0) js.reverse ∗ mPts c 0 c (mineV A B c) ∗ (atPos ER (bcell c) 1 ∅ 0 ∗ aPts c (A c) ∗ bPts c (B c)) ∗ emp)

set_option maxHeartbeats 4000000 in
theorem body_run {Q : PUnit → sProp 𝕄} (h0 : aM.IsWhole) (h1 : bM.IsWhole) (h2 : oM.IsWhole) (h3 : mM.IsWhole) (h4 : iM.IsWhole)
    (f : S2x512x256.Idx → Elt F .bf16) (H : finish A B c K ⊢ |={Set.univ}=> Q ⟨⟩) :
    start A B c K f ⊢ WP c (cc0_body aM h0 bM h1 oM h2 mM h3 iM h4 cc0_scratch2 cc0_scratch3 cc0_scratch4 cc0_scratch5) Q := by
  unfold start
  rw [cc0_body_eq_skeleton]; unfold cc0_body_skel
  refine WP_bind ?_
  rw [k0_part47_eq_skeleton]; unfold k0_part47_skel
  -- the signals
  refine WP_bind ?_
  rw [k0_part1_eq_skeleton]; unfold k0_part1_skel
  simp only [semSignalWord, Prog.lift, Prog.bind_op, Prog.bind_ret, Prog.pure_eq_ret, wp_deviceId]
  refine step_signal (sdev1 c) rfl ?_
  refine step_signal (sdev2 c) rfl ?_
  refine WP_ret (WP_bind ?_)
  rw [k0_part2_eq_skeleton]; unfold k0_part2_skel
  simp only [semSignalWord, Prog.lift, Prog.bind_op, Prog.bind_ret, Prog.pure_eq_ret]
  refine step_signal (sdev3 c) rfl ?_
  refine step_signal (sdev4 c) rfl ?_
  refine WP_ret (WP_bind ?_)
  rw [k0_part3_eq_skeleton]; unfold k0_part3_skel
  simp only [semSignalWord, Prog.lift, Prog.bind_op, Prog.bind_ret, Prog.pure_eq_ret]
  refine step_signal (sdev5 c) rfl ?_
  refine step_signal (sdev6 c) rfl ?_
  refine step_signal (sdev7 c) rfl ?_
  refine drop_signals.trans ?_
  refine step_loadA ?_
  refine WP_ret (WP_bind ?_)
  -- the partial product, and the barrier
  rw [k0_part4_eq_skeleton]; unfold k0_part4_skel
  simp only [semWaitWord, Prog.lift, Prog.bind_op, Prog.bind_ret, Prog.pure_eq_ret]
  refine pull2.trans ?_
  refine step_loadB ?_
  refine pull3.trans ?_
  refine step_loadM fun _ => ?_
  refine step_storeM ?_
  refine step_loadM fun _ => ?_
  refine step_storeM ?_
  refine pull4.trans ?_
  refine step_barrier rfl (owed_rs c) ?_
  refine (after_barrier (mine_write A B c _ _ _)).trans ?_
  -- the reduction's transfers, column half 0
  refine WP_ret (WP_bind ?_)
  rw [k0_part5_eq_skeleton]; unfold k0_part5_skel
  simp only [Prog.lift, Prog.bind_op, Prog.bind_ret, Prog.pure_eq_ret]
  refine step_rs (sdev8 c) (off1_eq c 3) rfl rfl rfl ?_
  refine step_rs (sdev9 c) (off1_eq c 2) rfl rfl rfl ?_
  refine WP_ret (WP_bind ?_)
  rw [k0_part6_eq_skeleton]; unfold k0_part6_skel
  simp only [Prog.lift, Prog.bind_op, Prog.bind_ret, Prog.pure_eq_ret]
  refine step_rs (sdev10 c) (off1_eq c 4) rfl rfl rfl ?_
  refine WP_ret (WP_bind ?_)
  rw [k0_part7_eq_skeleton]; unfold k0_part7_skel
  simp only [Prog.lift, Prog.bind_op, Prog.bind_ret, Prog.pure_eq_ret]
  refine step_rs (sdev11 c) (off1_eq c 1) rfl rfl rfl ?_
  refine WP_ret (WP_bind ?_)
  rw [k0_part8_eq_skeleton]; unfold k0_part8_skel
  simp only [Prog.lift, Prog.bind_op, Prog.bind_ret, Prog.pure_eq_ret]
  refine step_rs (sdev12 c) (off1_eq c 5) rfl rfl rfl ?_
  refine step_rs (sdev13 c) (off1_eq c 0) rfl rfl rfl ?_
  refine WP_ret (WP_bind ?_)
  rw [k0_part9_eq_skeleton]; unfold k0_part9_skel
  simp only [Prog.lift, Prog.bind_op, Prog.bind_ret, Prog.pure_eq_ret]
  refine step_rs (sdev14 c) (off1_eq c 6) rfl rfl rfl ?_
  refine WP_ret (WP_bind ?_)
  -- and column half 1
  refine (drop_owed (k := 1) (h := 0)).trans ?_
  refine pull2.trans ?_
  refine (add_nil (Φ := tok c 0 1)).trans ?_
  rw [k0_part10_eq_skeleton]; unfold k0_part10_skel
  simp only [Prog.lift, Prog.bind_op, Prog.bind_ret, Prog.pure_eq_ret]
  refine step_rs (sdev15 c) (off2_eq c 3) rfl rfl rfl ?_
  refine step_rs (sdev16 c) (off2_eq c 2) rfl rfl rfl ?_
  refine WP_ret (WP_bind ?_)
  rw [k0_part11_eq_skeleton]; unfold k0_part11_skel
  simp only [Prog.lift, Prog.bind_op, Prog.bind_ret, Prog.pure_eq_ret]
  refine step_rs (sdev17 c) (off2_eq c 4) rfl rfl rfl ?_
  refine WP_ret (WP_bind ?_)
  rw [k0_part12_eq_skeleton]; unfold k0_part12_skel
  simp only [Prog.lift, Prog.bind_op, Prog.bind_ret, Prog.pure_eq_ret]
  refine step_rs (sdev18 c) (off2_eq c 1) rfl rfl rfl ?_
  refine WP_ret (WP_bind ?_)
  rw [k0_part13_eq_skeleton]; unfold k0_part13_skel
  simp only [Prog.lift, Prog.bind_op, Prog.bind_ret, Prog.pure_eq_ret]
  refine step_rs (sdev19 c) (off2_eq c 5) rfl rfl rfl ?_
  refine step_rs (sdev20 c) (off2_eq c 0) rfl rfl rfl ?_
  refine WP_ret (WP_bind ?_)
  rw [k0_part14_eq_skeleton]; unfold k0_part14_skel
  simp only [Prog.lift, Prog.bind_op, Prog.bind_ret, Prog.pure_eq_ret]
  refine step_rs (sdev21 c) (off2_eq c 6) rfl rfl rfl ?_
  -- column half 0 added up as it arrives
  refine (drop_owed (k := 1) (h := 1)).trans ?_
  refine pull3.trans ?_
  refine step_loadOwn (h := 0) (k0_off3_eq c) ?_
  refine pull4.trans ?_
  refine (add_nil (Φ := got A B c 1 0)).trans ?_
  refine step_wait (k := 1) (h := 0) (j := 0) rfl rfl (owed_ag c) ?_
  refine WP_ret (WP_bind ?_)
  rw [k0_part15_eq_skeleton]; unfold k0_part15_skel
  simp only [Prog.lift, Prog.bind_op, Prog.bind_ret, Prog.pure_eq_ret]
  refine step_loadSlot (h := 0) (j := 0) rfl ?_
  refine step_wait (k := 1) (h := 0) (j := 1) rfl rfl (owed_ag c) ?_
  refine step_loadSlot (h := 0) (j := 1) rfl ?_
  refine WP_ret (WP_bind ?_)
  rw [k0_part16_eq_skeleton]; unfold k0_part16_skel
  simp only [Prog.lift, Prog.bind_op, Prog.bind_ret, Prog.pure_eq_ret]
  refine step_wait (k := 1) (h := 0) (j := 2) rfl rfl (owed_ag c) ?_
  refine step_loadSlot (h := 0) (j := 2) rfl ?_
  refine step_wait (k := 1) (h := 0) (j := 3) rfl rfl (owed_ag c) ?_
  refine step_loadSlot (h := 0) (j := 3) rfl ?_
  refine WP_ret (WP_bind ?_)
  rw [k0_part17_eq_skeleton]; unfold k0_part17_skel
  simp only [Prog.lift, Prog.bind_op, Prog.bind_ret, Prog.pure_eq_ret]
  refine step_wait (k := 1) (h := 0) (j := 4) rfl rfl (owed_ag c) ?_
  refine step_loadSlot (h := 0) (j := 4) rfl ?_
  refine step_wait (k := 1) (h := 0) (j := 5) rfl rfl (owed_ag c) ?_
  refine step_loadSlot (h := 0) (j := 5) rfl ?_
  refine WP_ret (WP_bind ?_)
  rw [k0_part18_eq_skeleton]; unfold k0_part18_skel
  simp only [Prog.lift, Prog.bind_op, Prog.bind_ret, Prog.pure_eq_ret]
  refine step_wait (k := 1) (h := 0) (j := 6) rfl rfl (owed_ag c) ?_
  refine step_loadSlot (h := 0) (j := 6) rfl ?_
  refine drop_nil.trans ?_
  refine pull5.trans ?_
  refine step_loadO (h := 0) (k0_off4_eq c) fun _ => ?_
  refine step_storeO (h := 0) (k0_off4_eq c) rfl ?_
  refine pull6.trans ?_
  refine (fill 0).trans ?_
  refine (add_nil (Φ := tok c 2 0)).trans ?_
  -- and handed back
  refine WP_ret (WP_bind ?_)
  rw [k0_part19_eq_skeleton]; unfold k0_part19_skel
  simp only [Prog.lift, Prog.bind_op, Prog.bind_ret, Prog.pure_eq_ret]
  refine step_ag (h := 0) (j := 3) (sdev22 c) (k0_off5_eq c) rfl rfl ?_
  refine step_ag (h := 0) (j := 2) (sdev23 c) (k0_off5_eq c) rfl rfl ?_
  refine WP_ret (WP_bind ?_)
  rw [k0_part20_eq_skeleton]; unfold k0_part20_skel
  simp only [Prog.lift, Prog.bind_op, Prog.bind_ret, Prog.pure_eq_ret]
  refine step_ag (h := 0) (j := 4) (sdev24 c) (k0_off5_eq c) rfl rfl ?_
  refine WP_ret (WP_bind ?_)
  rw [k0_part21_eq_skeleton]; unfold k0_part21_skel
  simp only [Prog.lift, Prog.bind_op, Prog.bind_ret, Prog.pure_eq_ret]
  refine step_ag (h := 0) (j := 1) (sdev25 c) (k0_off5_eq c) rfl rfl ?_
  refine step_ag (h := 0) (j := 5) (sdev26 c) (k0_off5_eq c) rfl rfl ?_
  refine WP_ret (WP_bind ?_)
  rw [k0_part22_eq_skeleton]; unfold k0_part22_skel
  simp only [Prog.lift, Prog.bind_op, Prog.bind_ret, Prog.pure_eq_ret]
  refine step_ag (h := 0) (j := 0) (sdev27 c) (k0_off5_eq c) rfl rfl ?_
  refine WP_ret (WP_bind ?_)
  rw [k0_part23_eq_skeleton]; unfold k0_part23_skel
  simp only [Prog.lift, Prog.bind_op, Prog.bind_ret, Prog.pure_eq_ret]
  refine step_ag (h := 0) (j := 6) (sdev28 c) (k0_off5_eq c) rfl rfl ?_
  -- column half 1 added up as it arrives
  refine (drop_owed (k := 3) (h := 0)).trans ?_
  refine pull6.trans ?_
  refine step_loadOwn (h := 1) (k0_off6_eq c) ?_
  refine pull7.trans ?_
  refine (add_nil (Φ := got A B c 1 1)).trans ?_
  refine step_wait (k := 1) (h := 1) (j := 0) rfl rfl (owed_ag1 c) ?_
  refine step_loadSlot (h := 1) (j := 0) rfl ?_
  refine WP_ret (WP_bind ?_)
  rw [k0_part24_eq_skeleton]; unfold k0_part24_skel
  simp only [Prog.lift, Prog.bind_op, Prog.bind_ret, Prog.pure_eq_ret]
  refine step_wait (k := 1) (h := 1) (j := 1) rfl rfl (owed_ag1 c) ?_
  refine step_loadSlot (h := 1) (j := 1) rfl ?_
  refine step_wait (k := 1) (h := 1) (j := 2) rfl rfl (owed_ag1 c) ?_
  refine step_loadSlot (h := 1) (j := 2) rfl ?_
  refine WP_ret (WP_bind ?_)
  rw [k0_part25_eq_skeleton]; unfold k0_part25_skel
  simp only [Prog.lift, Prog.bind_op, Prog.bind_ret, Prog.pure_eq_ret]
  refine step_wait (k := 1) (h := 1) (j := 3) rfl rfl (owed_ag1 c) ?_
  refine step_loadSlot (h := 1) (j := 3) rfl ?_
  refine step_wait (k := 1) (h := 1) (j := 4) rfl rfl (owed_ag1 c) ?_
  refine step_loadSlot (h := 1) (j := 4) rfl ?_
  refine WP_ret (WP_bind ?_)
  rw [k0_part26_eq_skeleton]; unfold k0_part26_skel
  simp only [Prog.lift, Prog.bind_op, Prog.bind_ret, Prog.pure_eq_ret]
  refine step_wait (k := 1) (h := 1) (j := 5) rfl rfl (owed_ag1 c) ?_
  refine step_loadSlot (h := 1) (j := 5) rfl ?_
  refine step_wait (k := 1) (h := 1) (j := 6) rfl rfl (owed_ag1 c) ?_
  refine step_loadSlot (h := 1) (j := 6) rfl ?_
  refine drop_nil.trans ?_
  refine pull8.trans ?_
  refine step_loadO (h := 1) (k0_off7_eq c) fun _ => ?_
  refine WP_ret (WP_bind ?_)
  rw [k0_part27_eq_skeleton]; unfold k0_part27_skel
  simp only [Prog.lift, Prog.bind_op, Prog.bind_ret, Prog.pure_eq_ret]
  refine step_storeO (h := 1) (k0_off7_eq c) rfl ?_
  refine pull9.trans ?_
  refine (fill 1).trans ?_
  refine (add_nil (Φ := tok c 2 1)).trans ?_
  -- and handed back
  refine step_ag (h := 1) (j := 3) (sdev29 c) (k0_off8_eq c) rfl rfl ?_
  refine WP_ret (WP_bind ?_)
  rw [k0_part28_eq_skeleton]; unfold k0_part28_skel
  simp only [Prog.lift, Prog.bind_op, Prog.bind_ret, Prog.pure_eq_ret]
  refine step_ag (h := 1) (j := 2) (sdev30 c) (k0_off8_eq c) rfl rfl ?_
  refine step_ag (h := 1) (j := 4) (sdev31 c) (k0_off8_eq c) rfl rfl ?_
  refine WP_ret (WP_bind ?_)
  rw [k0_part29_eq_skeleton]; unfold k0_part29_skel
  simp only [Prog.lift, Prog.bind_op, Prog.bind_ret, Prog.pure_eq_ret]
  refine step_ag (h := 1) (j := 1) (sdev32 c) (k0_off8_eq c) rfl rfl ?_
  refine WP_ret (WP_bind ?_)
  rw [k0_part30_eq_skeleton]; unfold k0_part30_skel
  simp only [Prog.lift, Prog.bind_op, Prog.bind_ret, Prog.pure_eq_ret]
  refine step_ag (h := 1) (j := 5) (sdev33 c) (k0_off8_eq c) rfl rfl ?_
  refine step_ag (h := 1) (j := 0) (sdev34 c) (k0_off8_eq c) rfl rfl ?_
  refine WP_ret (WP_bind ?_)
  rw [k0_part31_eq_skeleton]; unfold k0_part31_skel
  simp only [Prog.lift, Prog.bind_op, Prog.bind_ret, Prog.pure_eq_ret]
  refine step_ag (h := 1) (j := 6) (sdev35 c) (k0_off8_eq c) rfl rfl ?_
  refine WP_ret (WP_bind ?_)
  -- the others' finished blocks arrive
  refine (drop_owed (k := 3) (h := 1)).trans ?_
  refine pull9.trans ?_
  refine (add_nil (Φ := got A B c 3 0)).trans ?_
  rw [k0_part32_eq_skeleton]; unfold k0_part32_skel
  simp only [Prog.lift, Prog.bind_op, Prog.bind_ret, Prog.pure_eq_ret]
  refine step_wait (k := 3) (h := 0) (j := 0) rfl rfl owed_none ?_
  refine step_wait (k := 3) (h := 0) (j := 1) rfl rfl owed_none ?_
  refine WP_ret (WP_bind ?_)
  rw [k0_part33_eq_skeleton]; unfold k0_part33_skel
  simp only [Prog.lift, Prog.bind_op, Prog.bind_ret, Prog.pure_eq_ret]
  refine step_wait (k := 3) (h := 0) (j := 2) rfl rfl owed_none ?_
  refine WP_ret (WP_bind ?_)
  rw [k0_part34_eq_skeleton]; unfold k0_part34_skel
  simp only [Prog.lift, Prog.bind_op, Prog.bind_ret, Prog.pure_eq_ret]
  refine step_wait (k := 3) (h := 0) (j := 3) rfl rfl owed_none ?_
  refine step_wait (k := 3) (h := 0) (j := 4) rfl rfl owed_none ?_
  refine WP_ret (WP_bind ?_)
  rw [k0_part35_eq_skeleton]; unfold k0_part35_skel
  simp only [Prog.lift, Prog.bind_op, Prog.bind_ret, Prog.pure_eq_ret]
  refine step_wait (k := 3) (h := 0) (j := 5) rfl rfl owed_none ?_
  refine WP_ret (WP_bind ?_)
  rw [k0_part36_eq_skeleton]; unfold k0_part36_skel
  simp only [Prog.lift, Prog.bind_op, Prog.bind_ret, Prog.pure_eq_ret]
  refine step_wait (k := 3) (h := 0) (j := 6) rfl rfl owed_none ?_
  refine drop_nil.trans ?_
  refine pull10.trans ?_
  refine (add_nil (Φ := got A B c 3 1)).trans ?_
  refine step_wait (k := 3) (h := 1) (j := 0) rfl rfl owed_none ?_
  refine WP_ret (WP_bind ?_)
  rw [k0_part37_eq_skeleton]; unfold k0_part37_skel
  simp only [Prog.lift, Prog.bind_op, Prog.bind_ret, Prog.pure_eq_ret]
  refine step_wait (k := 3) (h := 1) (j := 1) rfl rfl owed_none ?_
  refine WP_ret (WP_bind ?_)
  rw [k0_part38_eq_skeleton]; unfold k0_part38_skel
  simp only [Prog.lift, Prog.bind_op, Prog.bind_ret, Prog.pure_eq_ret]
  refine step_wait (k := 3) (h := 1) (j := 2) rfl rfl owed_none ?_
  refine step_wait (k := 3) (h := 1) (j := 3) rfl rfl owed_none ?_
  refine WP_ret (WP_bind ?_)
  rw [k0_part39_eq_skeleton]; unfold k0_part39_skel
  simp only [Prog.lift, Prog.bind_op, Prog.bind_ret, Prog.pure_eq_ret]
  refine step_wait (k := 3) (h := 1) (j := 4) rfl rfl owed_none ?_
  refine WP_ret (WP_bind ?_)
  rw [k0_part40_eq_skeleton]; unfold k0_part40_skel
  simp only [Prog.lift, Prog.bind_op, Prog.bind_ret, Prog.pure_eq_ret]
  refine step_wait (k := 3) (h := 1) (j := 5) rfl rfl owed_none ?_
  refine step_wait (k := 3) (h := 1) (j := 6) rfl rfl owed_none ?_
  -- the transfers sent are done
  refine drop_nil.trans ?_
  refine pull10.trans ?_
  refine (reorder _ jo (by decide) (by decide) (by decide)).trans ?_
  refine (add_nil (Φ := got A B c 0 0)).trans ?_
  refine step_wait (k := 0) (h := 0) (j := 3) rfl rfl owed_none ?_
  refine WP_ret (WP_bind ?_)
  rw [k0_part41_eq_skeleton]; unfold k0_part41_skel
  simp only [Prog.lift, Prog.bind_op, Prog.bind_ret, Prog.pure_eq_ret]
  refine step_wait (k := 0) (h := 0) (j := 2) rfl rfl owed_none ?_
  refine step_wait (k := 0) (h := 0) (j := 4) rfl rfl owed_none ?_
  refine step_wait (k := 0) (h := 0) (j := 1) rfl rfl owed_none ?_
  refine WP_ret (WP_bind ?_)
  rw [k0_part42_eq_skeleton]; unfold k0_part42_skel
  simp only [Prog.lift, Prog.bind_op, Prog.bind_ret, Prog.pure_eq_ret]
  refine step_wait (k := 0) (h := 0) (j := 5) rfl rfl owed_none ?_
  refine step_wait (k := 0) (h := 0) (j := 0) rfl rfl owed_none ?_
  refine step_wait (k := 0) (h := 0) (j := 6) rfl rfl owed_none ?_
  refine WP_ret (WP_bind ?_)
  refine drop_nil.trans ?_
  refine pull10.trans ?_
  refine (reorder _ jo (by decide) (by decide) (by decide)).trans ?_
  refine (add_nil (Φ := got A B c 0 1)).trans ?_
  rw [k0_part43_eq_skeleton]; unfold k0_part43_skel
  simp only [Prog.lift, Prog.bind_op, Prog.bind_ret, Prog.pure_eq_ret]
  refine step_wait (k := 0) (h := 1) (j := 3) rfl rfl owed_none ?_
  refine step_wait (k := 0) (h := 1) (j := 2) rfl rfl owed_none ?_
  refine step_wait (k := 0) (h := 1) (j := 4) rfl rfl owed_none ?_
  refine step_wait (k := 0) (h := 1) (j := 1) rfl rfl owed_none ?_
  refine WP_ret (WP_bind ?_)
  rw [k0_part44_eq_skeleton]; unfold k0_part44_skel
  simp only [Prog.lift, Prog.bind_op, Prog.bind_ret, Prog.pure_eq_ret]
  refine step_wait (k := 0) (h := 1) (j := 5) rfl rfl owed_none ?_
  refine step_wait (k := 0) (h := 1) (j := 0) rfl rfl owed_none ?_
  refine step_wait (k := 0) (h := 1) (j := 6) rfl rfl owed_none ?_
  refine WP_ret (WP_bind ?_)
  refine drop_nil.trans ?_
  refine pull8.trans ?_
  refine (reorder _ jo (by decide) (by decide) (by decide)).trans ?_
  refine (add_nil (Φ := got A B c 2 0)).trans ?_
  rw [k0_part45_eq_skeleton]; unfold k0_part45_skel
  simp only [Prog.lift, Prog.bind_op, Prog.bind_ret, Prog.pure_eq_ret]
  refine step_wait (k := 2) (h := 0) (j := 3) rfl rfl owed_none ?_
  refine step_wait (k := 2) (h := 0) (j := 2) rfl rfl owed_none ?_
  refine step_wait (k := 2) (h := 0) (j := 4) rfl rfl owed_none ?_
  refine step_wait (k := 2) (h := 0) (j := 1) rfl rfl owed_none ?_
  refine step_wait (k := 2) (h := 0) (j := 5) rfl rfl owed_none ?_
  refine WP_ret (WP_bind ?_)
  rw [k0_part46_eq_skeleton]; unfold k0_part46_skel
  simp only [Prog.lift, Prog.bind_op, Prog.bind_ret, Prog.pure_eq_ret]
  refine step_wait (k := 2) (h := 0) (j := 0) rfl rfl owed_none ?_
  refine step_wait (k := 2) (h := 0) (j := 6) rfl rfl owed_none ?_
  refine drop_nil.trans ?_
  refine pull6.trans ?_
  refine (reorder _ jo (by decide) (by decide) (by decide)).trans ?_
  refine (add_nil (Φ := got A B c 2 1)).trans ?_
  refine step_wait (k := 2) (h := 1) (j := 3) rfl rfl owed_none ?_
  refine step_wait (k := 2) (h := 1) (j := 2) rfl rfl owed_none ?_
  refine step_wait (k := 2) (h := 1) (j := 4) rfl rfl owed_none ?_
  refine WP_ret ?_
  refine step_wait (k := 2) (h := 1) (j := 1) rfl rfl owed_none ?_
  refine WP_ret ?_
  refine step_wait (k := 2) (h := 1) (j := 5) rfl rfl owed_none ?_
  refine step_wait (k := 2) (h := 1) (j := 0) rfl rfl owed_none ?_
  refine step_wait (k := 2) (h := 1) (j := 6) rfl rfl owed_none ?_
  refine drop_nil.trans ?_
  exact WP_done H

end Run

end Cert.KernelIdeal.Run

end
-- ==== Proof.KernelIdeal.Edges.lean ====
/-
  The two ends of the kernel's body: from what the pipeline and the launch give a device to where the body starts, and
  from where it ends to buffers held whole and semaphores at zero.
-/
module

public import proofs.«01_k».proof.Proof.KernelIdeal.Body
public import Idealize.ShloMosaic.Lib.Rounds.Family

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The families -/

/-- One semaphore kind and column half over the transfers. -/
abbrev all7 (Φ : Fin 7 → SP F) : SP F := bigSep Finset.univ Φ

omit [FloatOps F] in
theorem bigSep_XI (Φ : XI → sProp 𝕄) : bigSep Finset.univ Φ
    = iprop((all7 (fun j => Φ (0, 0, j)) ∗ all7 (fun j => Φ (0, 1, j))) ∗ (all7 (fun j => Φ (1, 0, j)) ∗ all7 (fun j => Φ (1, 1, j)))
      ∗ (all7 (fun j => Φ (2, 0, j)) ∗ all7 (fun j => Φ (2, 1, j))) ∗ (all7 (fun j => Φ (3, 0, j)) ∗ all7 (fun j => Φ (3, 1, j)))) := by
  have e (k : Fin 4) : (bigSep Finset.univ fun y : Fin 2 × Fin 7 => Φ (k, y)) = iprop(all7 (fun j => Φ (k, 0, j)) ∗ all7 (fun j => Φ (k, 1, j))) := by
    rw [bigSep_univ_prod, BI.bigSep_fin_two]; rfl
  rw [bigSep_univ_prod, bigSep_univ_eq_bigSepL [0, 1, 2, 3] (by decide) (by decide), bigSepL_cons_cons, bigSepL_cons_cons, bigSepL_cons_cons, bigSepL_singleton,
    e 0, e 1, e 2, e 3]
  rfl

omit [FloatOps F] in
theorem bigSep_CX (Φ : CX → sProp 𝕄) : bigSep Finset.univ Φ = iprop(Φ (.inl ()) ∗ bigSep Finset.univ fun x : XI => Φ (.inr x)) := by
  rw [BI.bigSep_univ_sum, bigSep_univ_eq_bigSepL [()] (by decide) (by decide), bigSepL_singleton]; rfl

omit [FloatOps F] in
theorem out_deal (c : Dev nD) (f : S512x512.Idx → Elt F .bf16) :
    (((c : Thread nD τ).loc cc0_stg2_0) ↦{fullShare} f : sProp 𝕄)
      = iprop((oPts c 0 c f ∗ all7 fun j => oPts c 0 (up c j) f) ∗ (oPts c 1 c f ∗ all7 fun j => oPts c 1 (up c j) f)) := by
  rw [Ring.pointsTo_blocks (ℓ := (c : Thread nD τ).loc cc0_stg2_0) (fun b => OW b) (fib_disjoint okey) (fib_cover okey) f, bigSep_univ_prod, BI.bigSep_fin_two,
    bigSep_dev c (fun q => ((c : Thread nD τ).loc cc0_stg2_0) ↦[OW (0, q)]{fullShare} f),
    bigSep_dev c (fun q => ((c : Thread nD τ).loc cc0_stg2_0) ↦[OW (1, q)]{fullShare} f)]
  rfl

omit [FloatOps F] in
theorem in_deal (c : Dev nD) (f : S2x7x64x256.Idx → Elt F .bf16) :
    (((c : Thread nD τ).loc cc0_scratch1) ↦{fullShare} f : sProp 𝕄)
      = iprop((all7 fun j => iPts c 0 j f) ∗ all7 fun j => iPts c 1 j f) := by
  rw [Ring.pointsTo_blocks (ℓ := (c : Thread nD τ).loc cc0_scratch1) (fun b => IW b) (fib_disjoint ikey) (fib_cover ikey) f, bigSep_univ_prod, BI.bigSep_fin_two]
  rfl

/-! ## Before the body -/

/-- A device's positions at one kind of cell, in its round 0 or past it. -/
def pos (c : Dev nD) (k : Fin 4) (h : Fin 2) (r : ℕ) : SP F := all7 fun j => atPos ER (xcell c k h j) r ∅ 0
/-- The credits the launch gives it there. -/
def crd (c : Dev nD) (k : Fin 4) (h : Fin 2) : SP F := all7 fun j => cred (tallyAt (xcell c k h j) () N)

/-- The positions a device keeps and the tokens it pays with. -/
def kit (c : Dev nD) : SP F :=
  iprop(atPos ER (bcell c) 0 ∅ 0 ∗ (all7 fun j => dutyTok ER (bcell (up c j)) 0 j)
    ∗ all7 (rsTok c 0) ∗ all7 (rsTok c 1) ∗ all7 (agTok c 0) ∗ all7 (agTok c 1)
    ∗ pos c 1 0 0 ∗ pos c 1 1 0 ∗ pos c 3 0 0 ∗ pos c 3 1 0)
def credits (c : Dev nD) : SP F :=
  iprop(cred (tallyAt (bcell c) () 7) ∗ crd c 1 0 ∗ crd c 1 1 ∗ crd c 3 0 ∗ crd c 3 1)

omit [FloatOps F] in
theorem tok_deal (c : Dev nD) (k : Fin 4) (h : Fin 2) : iprop(crd (F := F) c k h ∗ pos c k h 0) = starL (tok (F := F) c k h) js := by
  rw [star_js]; unfold crd pos; rw [← bigSep_sep']; rfl

omit [FloatOps F] in
theorem sig_deal (c : Dev nD) (fi : S2x7x64x256.Idx → Elt F .bf16) (fo : S512x512.Idx → Elt F .bf16) :
    iprop((all7 fun j => iPts c 0 j fi) ∗ (all7 fun j => iPts c 1 j fi) ∗ (all7 fun j => oPts c 0 (up c j) fo) ∗ (all7 fun j => oPts c 1 (up c j) fo)
        ∗ all7 fun j => dutyTok ER (bcell (up c j)) 0 j)
      ⊢ starL (sigTodo (F := F) c) js := by
  have one (j : Fin 7) : iprop(iPts c 0 (Fin.rev j) fi ∗ iPts c 1 (Fin.rev j) fi ∗ oPts c 0 (up c j) fo ∗ oPts c 1 (up c j) fo ∗ dutyTok ER (bcell (up c j)) 0 j)
      ⊢ sigTodo (F := F) c j := by
    unfold sigTodo grant
    iintro ⟨H0, H1, H2, H3, Ht⟩
    isplitr [Ht]
    · isplitl [H0]; · iexists fi; iexact H0
      isplitl [H1]; · iexists fi; iexact H1
      isplitl [H2]; · iexists fo; iexact H2
      iexists fo; iexact H3
    iexact Ht
  rw [star_js, all7, all7, bigSep_rev (fun j => iPts c 0 j fi), bigSep_rev (fun j => iPts c 1 j fi), ← bigSep_sep', ← bigSep_sep', ← bigSep_sep', ← bigSep_sep']
  exact bigSep_mono fun j _ => one j

section Edge
variable (A : Dev nD → Vec F S512x256 .bf16) (B : Dev nD → Vec F S256x512 .bf16) (c : Dev nD) (K : Dev nD × CX → ℕ)

/-- What the body starts from. -/
theorem start_of (fm : S2x512x256.Idx → Elt F .bf16) (fi : S2x7x64x256.Idx → Elt F .bf16) (fo : S512x512.Idx → Elt F .bf16) :
    iprop(env A B c K (ow c) ∗ kit c ∗ credits c ∗ aPts c (A c) ∗ bPts c (B c) ∗ mAll c fm
        ∗ (((c : Thread nD τ).loc cc0_scratch1) ↦{fullShare} fi) ∗ (((c : Thread nD τ).loc cc0_stg2_0) ↦{fullShare} fo))
      ⊢ start A B c K fm := by
  unfold start kit credits
  rw [in_deal, out_deal, ← tok_deal, ← tok_deal, ← tok_deal, ← tok_deal]
  iintro ⟨HE, ⟨Hab, Htb, Hr0, Hr1, Hg0, Hg1, P10, P11, P30, P31⟩, ⟨Hcb, C10, C11, C30, C31⟩, Ha, Hb, Hm, ⟨I0, I1⟩, ⟨O0, Os0⟩, ⟨O1, Os1⟩⟩
  isplitl [HE]; · iexact HE
  isplitl [I0 I1 Os0 Os1 Htb]
  · iapply (sig_deal c fi fo)
    isplitl [I0]; · iexact I0
    isplitl [I1]; · iexact I1
    isplitl [Os0]; · iexact Os0
    isplitl [Os1] <;> iassumption
  isplitl [Ha]; · iexact Ha
  isplitl [Hb]; · iexact Hb
  isplitl [Hm]; · iexact Hm
  isplitl [Hcb Hab]
  · isplitl [Hcb] <;> iassumption
  isplitl [O0]; · iexists fo; iexact O0
  isplitl [O1]; · iexists fo; iexact O1
  isplitl [Hr0]; · iexact Hr0
  isplitl [Hr1]; · iexact Hr1
  isplitl [Hg0]; · iexact Hg0
  isplitl [Hg1]; · iexact Hg1
  isplitl [C10 P10]; · isplitl [C10] <;> iassumption
  isplitl [C11 P11]; · isplitl [C11] <;> iassumption
  isplitl [C30 P30]; · isplitl [C30] <;> iassumption
  isplitl [C31 P31]; · isplitl [C31] <;> iassumption
  iempintro

/-! ## After the body -/

theorem got_split (k : Fin 4) (h : Fin 2) (l : List (Fin 7)) (hl : l.Nodup) (hc : l.toFinset = Finset.univ) :
    starL (got A B c k h) l = iprop((all7 fun j => xPay A B c (k, h, j)) ∗ pos c k h 1) := by
  rw [starL_univ _ l hl hc]; unfold pos; rw [← bigSep_sep']; rfl

/-- Every cell of the device back at zero. -/
theorem close_cells :
    iprop(records A B K ∗ atPos ER (bcell c) 1 ∅ 0 ∗ pos c 0 0 1 ∗ pos c 0 1 1 ∗ pos c 1 0 1 ∗ pos c 1 1 1 ∗ pos c 2 0 1 ∗ pos c 2 1 1 ∗ pos c 3 0 1 ∗ pos c 3 1 1)
      ⊢ (|={Set.univ}=> bigSep Finset.univ fun x : CX => semVal (kcell (c, x)) 0 : sProp 𝕄) := by
  have hp : iprop(atPos ER (bcell c) 1 ∅ 0 ∗ pos (F := F) c 0 0 1 ∗ pos c 0 1 1 ∗ pos c 1 0 1 ∗ pos c 1 1 1 ∗ pos c 2 0 1 ∗ pos c 2 1 1 ∗ pos c 3 0 1 ∗ pos c 3 1 1)
      ⊢ bigSep Finset.univ fun x : CX => (atPos ER (kcell (c, x)) 1 ∅ 0 : sProp 𝕄) := by
    rw [bigSep_CX, bigSep_XI]
    unfold pos
    iintro ⟨H, H00, H01, H10, H11, H20, H21, H30, H31⟩
    isplitl [H]; · iexact H
    isplitl [H00 H01]; · isplitl [H00] <;> iassumption
    isplitl [H10 H11]; · isplitl [H10] <;> iassumption
    isplitl [H20 H21]; · isplitl [H20] <;> iassumption
    isplitl [H30] <;> iassumption
  have hi : records A B K ⊢ bigSep Finset.univ fun x : CX => (cellInv ER (rd A B) (K (c, x)) (kcell (c, x)) : sProp 𝕄) := by
    refine sep_elim_left.trans ?_
    rw [bigSep_univ_prod]
    exact bigSep_elim (Finset.mem_univ c)
  refine ((sep_mono_left hi).trans (sep_mono_right hp)).trans ?_
  rw [← bigSep_sep']
  exact Rounds.cells_close (E := ER) (Rd := rd A B) Finset.univ (fun x : CX => kcell (c, x)) (fun x => K (c, x)) (fun _ _ => Set.mem_univ _) (fun _ _ h => h)
    (fun _ => 1) (fun x _ r hr => duties_later A B _ r hr)

/-- What the body leaves. -/
def done : SP F :=
  iprop((∃ f, mAll c f) ∗ (∃ f, ((c : Thread nD τ).loc cc0_scratch1) ↦{fullShare} f) ∗ (bigSep Finset.univ fun x : CX => semVal (kcell (c, x)) 0)
    ∗ (∃ W, owes (c : Thread nD τ) 0 W) ∗ aPts c (A c) ∗ bPts c (B c) ∗ (((c : Thread nD τ).loc cc0_stg2_0) ↦{fullShare} outV A B))

/-- A window's shares are the window, -/
theorem shares_back (h : Fin 2) : (all7 fun j => xPay A B c (2, h, j)) = oPts c h c (outV A B) := by
  unfold oPts
  rw [Transfers.pointsTo_deal (Finset.univ : Finset (Fin 7)) ⟨0, Finset.mem_univ _⟩ fullShare]
  rfl
/-- and the windows received are those of the seven others. -/
theorem rows_back (h : Fin 2) : (all7 fun j => xPay A B c (3, h, j)) = all7 fun j => oPts c h (up c j) (outV A B) := by
  rw [all7, bigSep_rev]
  exact bigSep_congr fun j _ => by
    show oPts c h (dn c (Fin.rev j)) (outV A B) = _
    rw [dn_rev]

theorem mine_back (h : Fin 2) : (all7 fun j => xPay A B c (0, h, j)) = all7 fun j => mPts c h (up c j) (mineV A B c) := rfl
theorem in_back (h : Fin 2) : (all7 fun j => xPay A B c (1, h, j)) = all7 fun j => iPts c h j (inboxV A B c) := rfl

theorem finish_done : finish A B c K ⊢ |={Set.univ}=> done A B c := by
  unfold finish env
  simp only [got_split A B c _ _ jo.reverse (by decide) (by decide), got_split A B c _ _ js.reverse (by decide) (by decide)]
  simp only [shares_back, rows_back, mine_back, in_back]
  iintro ⟨⟨#HR, -, HO⟩, ⟨O1, P21⟩, ⟨O0, P20⟩, ⟨M1, P01⟩, ⟨M0, P00⟩, ⟨R1, P31⟩, ⟨R0, P30⟩, ⟨I1, P11⟩, Mc1, ⟨I0, P10⟩, Mc0, ⟨PB, Ha, Hb⟩, -⟩
  imod (close_cells A B c K) $$ [PB P00 P01 P10 P11 P20 P21 P30 P31] with HZ
  · isplitr; · iexact HR
    isplitl [PB]; · iexact PB
    isplitl [P00]; · iexact P00
    isplitl [P01]; · iexact P01
    isplitl [P10]; · iexact P10
    isplitl [P11]; · iexact P11
    isplitl [P20]; · iexact P20
    isplitl [P21]; · iexact P21
    isplitl [P30] <;> iassumption
  imodintro
  unfold done
  isplitl [M0 M1 Mc0 Mc1]
  · iexists (mineV A B c)
    iapply (Entails.of_eq (mAll_deal c (mineV A B c)).symm)
    isplitl [Mc0 M0]; · isplitl [Mc0] <;> iassumption
    isplitl [Mc1] <;> iassumption
  isplitl [I0 I1]
  · iexists (inboxV A B c)
    iapply (Entails.of_eq (in_deal c (inboxV A B c)).symm)
    isplitl [I0] <;> iassumption
  isplitl [HZ]; · iexact HZ
  isplitl [HO]; · iexact HO
  isplitl [Ha]; · iexact Ha
  isplitl [Hb]; · iexact Hb
  iapply (Entails.of_eq (out_deal c (outV A B)).symm)
  isplitl [O0 R0]; · isplitl [O0] <;> iassumption
  isplitl [O1] <;> iassumption

end Edge

end Cert.KernelIdeal.Run

end
-- ==== Proof.KernelIdeal.Launch.lean ====
/-
  The launch of the fused matrix product: the pipeline's proof data, the cells' ghost state dealt to the devices, and the
  run of @main.
-/
module

public import proofs.«01_k».proof.Proof.KernelIdeal.Edges
public import proofs.«01_k».proof.Proof.Gen.KernelIdeal.Points
public import Idealize.ShloMosaic.Lib.Pipeline.Launch
public import Idealize.ShloMosaic.Lib.Pipeline.CollectiveSegs
public import Idealize.ShloMosaic.Lib.Quiescent

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The pipeline's proof data -/

/-- Device `c`'s two operands, as its one grid point finds them staged. -/
def aV (c : Dev nD) : Vec F S512x256 .bf16 := (win0_0.blk (0 : Fin 1)).view.read (Elt F) ((s₀ m ρ).mem ((c : Thread nD τ).loc main_arg0))
def bV (c : Dev nD) : Vec F S256x512 .bf16 := (win0_1.blk (0 : Fin 1)).view.read (Elt F) ((s₀ m ρ).mem ((c : Thread nD τ).loc main_arg1))
/-- The result. -/
def oV : S512x512.Idx → Elt F .bf16 := outV (aV m ρ) (bV m ρ)

/-- What the launch leaves a device, at names of the cells' invariants. -/
def given (c : Dev nD) : SP F := iprop(∃ K, records (aV m ρ) (bV m ρ) K ∗ kit c)
def begun (c : Dev nD) : SP F := iprop(given m ρ c ∗ credits c ∗ levAts LL lv)

def Φ₀ (c : Dev nD) : SP F :=
  iprop(begun m ρ c ∗ (∃ f, mAll c f) ∗ (∃ f : S2x7x64x256.Idx → Elt F .bf16, ((c : Thread nD τ).loc cc0_scratch1) ↦{fullShare} f))
def Φ₁ (c : Dev nD) : SP F :=
  iprop((∃ f, mAll c f) ∗ (∃ f : S2x7x64x256.Idx → Elt F .bf16, ((c : Thread nD τ).loc cc0_scratch1) ↦{fullShare} f)
    ∗ bigSep Finset.univ fun x : CX => semVal (kcell (c, x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aV m ρ c
    | ⟨1, _⟩ => bV m ρ c
    | ⟨2, _⟩ => oV m ρ
  Φ t := match t with
    | ⟨0, _⟩ => Φ₀ m ρ c
    | ⟨_ + 1, _⟩ => Φ₁ c
  q _ := fullShare
  owed t := match t with
    | ⟨0, _⟩ => tal (ow c)
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
/-- A staging buffer held at contents `X`. -/
abbrev held (c : Dev nD) (b : Ref sig .tc) (X : b.ty.Contents (Elt F)) : SP F :=
  iprop(∃ f : Buf (Elt F) ((c : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : SP F :=
  iprop(Φ₀ m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
def bodyPost (c : Dev nD) : SP F :=
  iprop(Φ₁ c ∗ (dats m ρ 0 c).owesAt () t0_0.succ ∗ held c cc0_stg0_0 (aV m ρ c) ∗ held c cc0_stg1_0 (bV m ρ c) ∗ held c cc0_stg2_0 (oV m ρ))

theorem post_of_done (c : Dev nD) : done (aV m ρ) (bV m ρ) c ⊢ bodyPost m ρ c := by
  unfold done bodyPost Φ₁ Dat.owesAt Pipeline.owesWithin
  rw [show (dats m ρ 0 c).owed t0_0.succ = 0 from rfl]
  iintro ⟨HM, HI, HZ, ⟨%W, HO⟩, Ha, Hb, Ho⟩
  isplitl [HM HI HZ]
  · isplitl [HM]; · iexact HM
    isplitl [HI] <;> iassumption
  isplitl [HO]
  · iexists W
    isplitr; · ipureintro; exact fun _ _ => Or.inl trivial
    iexact HO
  isplitl [Ha]
  · iexists _; isplitr; · (ipureintro; rfl)
    unfold aPts; iexact Ha
  isplitl [Hb]
  · iexists _; isplitr; · (ipureintro; rfl)
    unfold bPts; iexact Hb
  iexists _; isplitr; · (ipureintro; rfl)
  unfold oV; iexact Ho

theorem before_a (c : Dev nD) (d) : (dats m ρ 0 c).before (0 : Fin 3) t0_0 d = aV m ρ c := by
  unfold Dat.before; rw [if_pos (fetch0_0 t0_0)]; rfl
theorem before_b (c : Dev nD) (d) : (dats m ρ 0 c).before (1 : Fin 3) t0_0 d = bV m ρ c := by
  unfold Dat.before; rw [if_pos (fetch0_1 t0_0)]; rfl

theorem body_sound (c : Dev nD) (h0 : aM.IsWhole) (h1 : bM.IsWhole) (h2 : oM.IsWhole) (h3 : mM.IsWhole) (h4 : iM.IsWhole) :
    bodyPre m ρ c ⊢ WP c (cc0_body aM h0 bM h1 oM h2 mM h3 iM h4 cc0_scratch2 cc0_scratch3 cc0_scratch4 cc0_scratch5) fun _ => bodyPost m ρ c := by
  unfold bodyPre Φ₀ begun given Dat.owesAt Pipeline.owesWithin
  rw [show (dats m ρ 0 c).owed t0_0.castSucc = tal (ow c) from rfl]
  iintro ⟨⟨⟨⟨%K, #HR, HK⟩, HC, HL⟩, ⟨%fm, HM⟩, ⟨%fi, HI⟩⟩, ⟨%W, -, HO⟩, ⟨%d0, %g0, %hg0, Ha⟩, ⟨%d1, %g1, %hg1, Hb⟩, ⟨%d2, %g2, -, Ho⟩⟩
  rw [before_a] at hg0
  rw [before_b] at hg1
  subst hg0
  subst hg1
  iapply (body_run h0 h1 h2 h3 h4 fm ((finish_done (aV m ρ) (bV m ρ) c K).trans (BI.fupd_mono (post_of_done m ρ c))))
  iapply (start_of (aV m ρ) (bV m ρ) c K fm fi g2)
  isplitl [HL HO]
  · unfold env
    isplitr; · iexact HR
    isplitl [HL]; · iexact HL
    iexists W; iexact HO
  isplitl [HK]; · iexact HK
  isplitl [HC]; · iexact HC
  isplitl [Ha]; · unfold aPts; iexact Ha
  isplitl [Hb]; · unfold bPts; iexact Hb
  isplitl [HM]; · iexact HM
  isplitl [HI]; · iexact HI
  iexact Ho

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_held]
  exact body_sound m ρ c (Memref.isWhole_whole _) (Memref.isWhole_whole _) (Memref.isWhole_whole _) (Memref.isWhole_whole _) (Memref.isWhole_whole _)

/-! ## The launch -/

abbrev osem : XI → SemLoc sig := fun x => csem (.inr x)
theorem ownSemFacts : Pipeline.OwnSemFacts cfg0.spec osem := by decide +kernel

theorem share_eq (c : Dev nD) (w : Fin cfg0.W) : (dats m ρ 0 c).share w = fullShare := by unfold Dat.share; split <;> rfl

def myCells : Finset (GSem nD τ sig) := Finset.univ.map ⟨kcell, kcell_inj⟩

/-- A duty token as minted: of a barrier's seven, or of a transfer's cell. -/
abbrev TI : Type := Fin 7 ⊕ XI
abbrev tokOf (ct : Dev nD × TI) : GSem nD τ sig × ℕ × Fin 7 := match ct.2 with
  | .inl j => (bcell ct.1, 0, j)
  | .inr x => (kcell (ct.1, .inr x), 0, 0)
theorem tokOf_inj : Function.Injective tokOf := by
  rintro ⟨c, t⟩ ⟨c', t'⟩ h
  rcases t with j | x <;> rcases t' with j' | x'
  · have h1 := kcell_inj (congrArg (fun y : GSem nD τ sig × ℕ × Fin 7 => y.1) h)
    have h2 : j = j' := congrArg (fun y : GSem nD τ sig × ℕ × Fin 7 => y.2.2) h
    rw [h2, show c = c' from congrArg Prod.fst h1]
  · exact absurd (congrArg Prod.snd (kcell_inj (congrArg (fun y : GSem nD τ sig × ℕ × Fin 7 => y.1) h))) (fun h => by cases h)
  · exact absurd (congrArg Prod.snd (kcell_inj (congrArg (fun y : GSem nD τ sig × ℕ × Fin 7 => y.1) h))) (fun h => by cases h)
  · have h1 := kcell_inj (congrArg (fun y : GSem nD τ sig × ℕ × Fin 7 => y.1) h)
    rw [show c = c' from congrArg Prod.fst h1, Sum.inr.inj (congrArg Prod.snd h1)]
def myToks : Finset (GSem nD τ sig × ℕ × Fin 7) := Finset.univ.map ⟨tokOf, tokOf_inj⟩

def u₀ : UU := (initOf (Pipeline.cells cfgs cellOf_inj) (Pipeline.launchToks cfgs cellOf_inj), initOf myCells myToks)

/-- The duty tokens of a device's own cells at one kind. -/
def own7 (c : Dev nD) (k : Fin 4) (h : Fin 2) : SP F := all7 fun j => dutyTok ER (xcell c k h j) 0 0
/-- Those it pays on the others. -/
def far7 (c : Dev nD) (k : Fin 4) (h : Fin 2) : SP F := all7 fun j => dutyTok ER (xcell (up c j) k h j) 0 0

def minted (c : Dev nD) : SP F :=
  iprop((all7 fun j => dutyTok ER (bcell c) 0 j) ∗ (own7 c 0 0 ∗ own7 c 0 1) ∗ (own7 c 1 0 ∗ own7 c 1 1) ∗ (own7 c 2 0 ∗ own7 c 2 1) ∗ (own7 c 3 0 ∗ own7 c 3 1))
def paid (c : Dev nD) : SP F :=
  iprop((all7 fun j => dutyTok ER (bcell (up c j)) 0 j) ∗ (own7 c 0 0 ∗ own7 c 0 1) ∗ (far7 c 1 0 ∗ far7 c 1 1) ∗ (own7 c 2 0 ∗ own7 c 2 1) ∗ (far7 c 3 0 ∗ far7 c 3 1))

omit [FloatOps F] in
/-- A family over devices and transfers, each transfer's share moved to the device it leaves from. -/
theorem around (Φ : Dev nD → Fin 7 → sProp 𝕄) :
    (bigSep Finset.univ fun c => all7 fun j => Φ c j) = bigSep Finset.univ fun c => all7 fun j => Φ (up c j) j := by
  rw [← bigSep_univ_prod (fun p : Dev nD × Fin 7 => Φ p.1 p.2), ← bigSep_univ_prod (fun p : Dev nD × Fin 7 => Φ (up p.1 p.2) p.2),
    bigSep_univ_equiv (⟨fun p => (up p.1 p.2, p.2), fun p => (dn p.1 p.2, p.2), fun p => by simp only [dn_up], fun p => by simp only [up_dn]⟩ : Dev nD × Fin 7 ≃ Dev nD × Fin 7)
      (fun p : Dev nD × Fin 7 => Φ p.1 p.2)]
  rfl

omit [FloatOps F] in
theorem toks_around : (bigSep Finset.univ fun c : Dev nD => (minted c : SP F)) = bigSep Finset.univ fun c : Dev nD => paid c := by
  unfold minted paid far7
  simp only [bigSep_sep']
  rw [around (fun c j => (dutyTok ER (bcell c) 0 j : SP F)), ← around (fun c j => (dutyTok ER (xcell c 1 0 j) 0 0 : SP F)),
    ← around (fun c j => (dutyTok ER (xcell c 1 1 j) 0 0 : SP F)), ← around (fun c j => (dutyTok ER (xcell c 3 0 j) 0 0 : SP F)),
    ← around (fun c j => (dutyTok ER (xcell c 3 1 j) 0 0 : SP F))]
  rfl

/-- What the launch element deals device `c`, -/
def G (c : Dev nD) : SP F :=
  iprop((bigSep Finset.univ fun x : CX => roundState ER (rd (aV m ρ) (bV m ρ)) (kcell (c, x)) 0)
    ∗ (bigSep Finset.univ fun x : CX => iprop(atPos ER (kcell (c, x)) 0 ∅ 0 ∗ reached ER (kcell (c, x)) 0)) ∗ minted c)

theorem fund_cells : BI.own (ER (initOf myCells myToks)) ⊢ (|==> bigSep Finset.univ (G m ρ) : sProp 𝕄) := by
  have hX (Φ : GSem nD τ sig → sProp 𝕄) : bigSep myCells Φ = bigSep Finset.univ fun c : Dev nD => bigSep Finset.univ fun x : CX => Φ (kcell (c, x)) := by
    unfold myCells; rw [bigSep_map, bigSep_univ_prod]; rfl
  have hT : bigSep myToks (fun x => (dutyTok ER x.1 x.2.1 x.2.2 : sProp 𝕄)) = bigSep Finset.univ fun c : Dev nD => minted c := by
    unfold myToks; rw [bigSep_map, bigSep_univ_prod]
    exact bigSep_congr fun c _ => by unfold minted; rw [BI.bigSep_univ_sum, bigSep_XI]; rfl
  iintro HX
  imod (Rounds.fund ER (rd (aV m ρ) (bV m ρ)) myCells myToks) $$ HX with ⟨Hst, Hr, Hat, Htok⟩
  imodintro
  ihave Hst' := (Entails.of_eq (hX fun g => roundState ER (rd (aV m ρ) (bV m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

omit [FloatOps F] in
theorem sems0_eq (c : Dev nD) :
    (bigSep Finset.univ fun x : CX => semVal (kcell (c, x)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_CX]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (rd (aV m ρ) (bV m ρ)) κ (kcell (c, x))))
          ∗ (bigSep Finset.univ fun x => iprop(atPos ER (kcell (c, x)) 0 ∅ 0 ∗ reached ER (kcell (c, x)) 0)) ∗ minted c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun x : CX => semVal (kcell (c, x)) 0) ∗ bigSep Finset.univ fun x : CX => roundState ER (rd (aV m ρ) (bV m ρ)) (kcell (c, x)) 0)
      ⊢ (|={Set.univ}=> bigSep Finset.univ fun x => iprop(∃ κ : ℕ, cellInv ER (rd (aV m ρ) (bV m ρ)) κ (kcell (c, x))) : sProp 𝕄) from by
        rw [← bigSep_sep']
        exact (bigSep_mono fun x _ => (Rounds.body_intro ER (rd (aV m ρ) (bV m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device's positions and the tokens it pays with, sorted as the body takes them. -/
theorem kit_of (c : Dev nD) : iprop((bigSep Finset.univ fun x : CX => atPos ER (kcell (c, x)) 0 ∅ 0) ∗ paid (F := F) c) ⊢ kit c := by
  rw [bigSep_CX, bigSep_XI]
  unfold paid kit rsTok agTok own7 far7 pos
  simp only [all7, bigSep_sep']
  iintro ⟨⟨HB, ⟨P00, P01⟩, ⟨P10, P11⟩, ⟨P20, P21⟩, ⟨P30, P31⟩⟩, HT, ⟨T00, T01⟩, ⟨T10, T11⟩, ⟨T20, T21⟩, ⟨T30, T31⟩⟩
  isplitl [HB]; · iexact HB
  isplitl [HT]; · iexact HT
  isplitl [T00 T10 P00]; · isplitl [T00]; · iexact T00
                           isplitl [T10] <;> iassumption
  isplitl [T01 T11 P01]; · isplitl [T01]; · iexact T01
                           isplitl [T11] <;> iassumption
  isplitl [T20 T30 P20]; · isplitl [T20]; · iexact T20
                           isplitl [T30] <;> iassumption
  isplitl [T21 T31 P21]; · isplitl [T21]; · iexact T21
                           isplitl [T31] <;> iassumption
  isplitl [P10]; · iexact P10
  isplitl [P11]; · iexact P11
  isplitl [P30] <;> iassumption

theorem given_intro (K : Dev nD × CX → ℕ) (c : Dev nD) :
    iprop(records (aV m ρ) (bV m ρ) K ∗ ((bigSep Finset.univ fun x : CX => atPos ER (kcell (c, x)) 0 ∅ 0) ∗ paid c)) ⊢ given m ρ c := by
  unfold given
  iintro ⟨HR, HP⟩
  iexists K
  isplitl [HR]; · iexact HR
  iapply (kit_of c); iexact HP

omit [FloatOps F] in
/-- What is persistent goes to every member of a family. -/
theorem share_out {I : Type} [DecidableEq I] {S : Finset I} {R : SP F} [BI.Persistent R] {Φ Ψ : I → SP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x => iprop(∃ κ : ℕ, cellInv ER (rd (aV m ρ) (bV m ρ)) κ (kcell (c, x))))
          ∗ (bigSep Finset.univ fun x => iprop(atPos ER (kcell (c, x)) 0 ∅ 0 ∗ reached ER (kcell (c, x)) 0)) ∗ minted c) : sProp 𝕄)
      ⊢ bigSep Finset.univ (given m ρ) := by
  rw [bigSep_sep', bigSep_sep', ← bigSep_univ_prod (fun ck : Dev nD × CX => iprop(∃ κ : ℕ, cellInv ER (rd (aV m ρ) (bV m ρ)) κ (kcell ck))),
    bigSep_congr (s := Finset.univ) (fun (c : Dev nD) _ => bigSep_sep' Finset.univ (fun x : CX => (atPos ER (kcell (c, x)) 0 ∅ 0 : sProp 𝕄)) (fun x => reached ER (kcell (c, x)) 0)),
    bigSep_sep', ← bigSep_univ_prod (fun ck : Dev nD × CX => (reached ER (kcell ck) 0 : sProp 𝕄)), toks_around]
  iintro ⟨HI, ⟨Hat, #HR⟩, Htok⟩
  ihave HK := (BI.bigSep_exists_pi Finset.univ (fun (ck : Dev nD × CX) (κ : ℕ) => (cellInv ER (rd (aV m ρ) (bV m ρ)) κ (kcell ck) : sProp 𝕄))) $$ HI
  icases HK with ⟨%K, #HI⟩
  iapply (share_out (R := records (aV m ρ) (bV m ρ) K) fun c _ => given_intro m ρ K c)
  isplitr
  · unfold records; isplitl; · iexact HI
    iexact HR
  · iapply (Entails.of_eq (bigSep_sep' Finset.univ (fun c : Dev nD => bigSep Finset.univ fun x : CX => (atPos ER (kcell (c, x)) 0 ∅ 0 : sProp 𝕄)) paid).symm)
    isplitl [Hat]; · iexact Hat
    iexact Htok

/-- All devices' own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (given m ρ) :=
  ((bigSep_mono fun c _ => core_alloc m ρ c).trans (bigSep_fupd _ _)).trans (BI.fupd_mono (regroup m ρ))

/-! ### The launch credit -/

abbrev O₀ (c : Dev nD) : CellTallies nD τ sig Unit := tal (ow c)

/-- How often the devices owe a cell. -/
theorem times_bar : ∀ c : Dev nD, ∑ d : Dev nD, (ow d).countP (fun y => decide (y = (c, .inl ()))) = 7 := by decide +kernel
theorem times_rs : ∀ (c : Dev nD) (h : Fin 2) (j : Fin 7), ∑ d : Dev nD, (ow d).countP (fun y => decide (y = (c, .inr (1, h, j)))) = 1 := by decide +kernel
theorem times_ag : ∀ (c : Dev nD) (h : Fin 2) (j : Fin 7), ∑ d : Dev nD, (ow d).countP (fun y => decide (y = (c, .inr (3, h, j)))) = 1 := by decide +kernel

theorem launch_cell (c : Dev nD) (x : CX) (n : ℕ) (hn : ∑ d : Dev nD, (ow d).countP (fun y => decide (y = (c, x))) = n) :
    tallyOn (kcell (c, x)) (launchCredit (Pipeline.owing O₀) 0 (kcell (c, x))) = (tallyAt (kcell (c, x)) () (n * amt x) : CellTallies nD τ sig Unit) := by
  unfold tallyAt; refine congrArg _ (Finsupp.ext fun u => ?_); cases u
  rw [Pipeline.launchCredit_owing, Finsupp.single_eq_same, Finset.sum_congr rfl fun d _ => tal_cell (ow d) (c, x), ← Finset.sum_mul, hn]

omit [FloatOps F] in
theorem keep_odd {a b c0 c1 d e0 e1 : SP F} : iprop(a ∗ b ∗ (c0 ∗ c1) ∗ d ∗ (e0 ∗ e1)) ⊢ iprop(a ∗ c0 ∗ c1 ∗ e0 ∗ e1) := by
  iintro ⟨HB, -, ⟨C10, C11⟩, -, ⟨C30, C31⟩⟩
  isplitl [HB]; · iexact HB
  isplitl [C10]; · iexact C10
  isplitl [C11]; · iexact C11
  isplitl [C30] <;> iassumption

omit [FloatOps F] in
theorem creds (c : Dev nD) : (Pipeline.launchCred O₀ c : sProp 𝕄) ⊢ credits c := by
  unfold Pipeline.launchCred
  refine (BI.bigSep_subset (Finset.subset_univ (Finset.univ.map ⟨csem, csem_inj⟩))).trans ?_
  rw [BI.bigSep_map, bigSep_CX, bigSep_XI]
  have hb : tallyOn (kcell (c, .inl ())) (launchCredit (Pipeline.owing O₀) 0 (kcell (c, .inl ()))) = (tallyAt (bcell c) () 7 : CellTallies nD τ sig Unit) :=
    launch_cell c _ 7 (times_bar c)
  have h1 (h : Fin 2) (j : Fin 7) : tallyOn (xcell c 1 h j) (launchCredit (Pipeline.owing O₀) 0 (xcell c 1 h j)) = (tallyAt (xcell c 1 h j) () N : CellTallies nD τ sig Unit) :=
    (launch_cell c _ 1 (times_rs c h j)).trans (by rw [Nat.one_mul]; rfl)
  have h3 (h : Fin 2) (j : Fin 7) : tallyOn (xcell c 3 h j) (launchCredit (Pipeline.owing O₀) 0 (xcell c 3 h j)) = (tallyAt (xcell c 3 h j) () N : CellTallies nD τ sig Unit) :=
    (launch_cell c _ 1 (times_ag c h j)).trans (by rw [Nat.one_mul]; rfl)
  unfold credits crd
  simp only [← hb, ← h1, ← h3]
  exact keep_odd

/-! ### The side conditions -/

theorem start_intro (c : Dev nD) :
    iprop(Pipeline.unscopedRestP Pipeline.Prefetch.none cfg0.spec c (fun b => m ((c : Thread nD τ).loc b)) ∗ levAts LL lv
        ∗ Pipeline.launchCred O₀ c ∗ prngReg c (ρ c) ∗ given m ρ c)
      ⊢ |={Set.univ}=> iprop(begun m ρ c ∗ emp) := by
  iintro ⟨-, Hlev, Hcr, -, HG⟩
  ihave Hc := (creds (F := F) c) $$ Hcr
  imodintro
  unfold begun
  isplitl
  · isplitl [HG]; · iexact HG
    isplitl [Hc]; · iexact Hc
    iexact Hlev
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ mAll
  iintro ⟨Hs, -, HM, HI⟩
  isplitl [Hs]; · iexact Hs
  isplitl [HM]; · iexact HM
  iexact HI

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ mAll
  rw [sems0_eq]
  iintro ⟨HM, HI, HU, HO⟩
  isplitl [HU]; · iexact HU
  isplitl [HO]; · iexact HO
  isplitl [HM]; · iexact HM
  iexact HI

theorem owed_level : ∀ c : Dev nD, ∀ x ∈ ow c, 0 < clv x.2 := by decide +kernel
omit [FloatOps F] in
/-- A staging semaphore is below everything owed. -/
theorem mayWait_stage (c : Dev nD) (q : DmaSem sig) (hq : dec (.dma q) = none) (O : CellTallies nD τ sig Unit) (hO : O = tal (ow c) ∨ O = 0) :
    (levAts LL lv : sProp 𝕄) ⊢ MayWait (c : Thread nD τ) (.dma q) () O := by
  have h0 : lv ((c : Thread nD τ), .dma q) () = 0 := by
    show (match dec (.dma q) with | none => 0 | some x => clv x) = 0
    rw [hq]
  rcases hO with rfl | rfl
  · exact mayWait_list c _ _ fun x hx => by rw [h0]; exact owed_level c x hx
  · rw [MayWait_zero]; iintro -; iempintro

theorem waits (c : Dev nD) : (levAts LL lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- An array when the run is over. -/
def finalA (c : Dev nD) (w : Fin cfg0.W) : Buf (Elt F) ((cfg0.win w).arr.view.loc (c : Thread nD τ)) := (dats m ρ 0 c).arrAt w cfg0.N

set_option maxRecDepth 8000 in
/-- On eight devices, from any memory with zero counters, every weakly fair execution of @main ends, with each device's
    arrays at the computed contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := LL) (lv := lv) (hL := LL_of_ne) (hwaits := waits m ρ)
    (G := G m ρ) (G' := given m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.KernelIdeal.Result.lean ====
/-
  What the arrays of the fused matrix product hold after its run, as functions of the initial memory.
-/
module

public import proofs.«01_k».proof.Proof.KernelIdeal.Launch

@[expose] public section

noncomputable section

namespace Cert.KernelIdeal.Run

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The left operand's window is the whole array. -/
theorem aV_eq (c : Dev nD) : aV m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The right operand's window is the whole array. -/
theorem bV_eq (c : Dev nD) : bV m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The left operand ends as it was. -/
theorem final_arg0 (c : Dev nD) : finalA m ρ c 0 = m ((c.tc : Thread nD τ).loc main_arg0) :=
  (dats (F := F) m ρ 0 c).arrAt_in (0 : Fin 3) rfl _

/-- The right operand ends as it was. -/
theorem final_arg1 (c : Dev nD) : finalA m ρ c 1 = m ((c.tc : Thread nD τ).loc main_arg1) :=
  (dats (F := F) m ρ 0 c).arrAt_in (1 : Fin 3) rfl _

/-- The result's one block is what the body left in the staging buffer. -/
theorem final_block (c : Dev nD) : (win0_2.blk (0 : Fin 1)).view.read (Elt F) (finalA m ρ c (2 : Fin 3)) = oV m ρ := by
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- The result array ends holding the fused product. -/
theorem final_out (c : Dev nD) : finalA m ρ c (2 : Fin 3) = oV m ρ := by
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans (final_block m ρ c)

/-- The run at the claims' buffers: the result is the fused product, the operands are unchanged, every counter is zero. -/
theorem run_result : θ_run defs (onTc (τ := τ) (main (F := F))) ⟨m, fun _ => 0, ρ⟩
    (fun r => (∀ c : Dev nD, r.2.mem ((c.tc : Thread nD τ).loc main_v1)
          = outV (fun q : Dev nD => m ((q.tc : Thread nD τ).loc main_arg0)) (fun q : Dev nD => m ((q.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  have ho : oV m ρ = outV (fun q : Dev nD => m ((q.tc : Thread nD τ).loc main_arg0)) (fun q : Dev nD => m ((q.tc : Thread nD τ).loc main_arg1)) := by
    unfold oV
    rw [show aV m ρ = fun q : Dev nD => m ((q.tc : Thread nD τ).loc main_arg0) from funext (aV_eq m ρ),
      show bV m ρ = fun q : Dev nD => m ((q.tc : Thread nD τ).loc main_arg1) from funext (bV_eq m ρ)]
  exact (θ_run defs _ _).mono (fun _ h => ⟨fun c => ⟨(h.1 c 2).trans ((final_out m ρ c).trans ho),
    (h.1 c 0).trans (final_arg0 m ρ c), (h.1 c 1).trans (final_arg1 m ρ c)⟩, h.2⟩) (run_main m ρ)

end Cert.KernelIdeal.Run

end
-- ==== Proof.Value.lean ====
/-
  The fused matrix product over the extended reals: what every device's result holds is the activation of the whole
  product, as the reference computes it.

  Device `c` multiplies its 256 columns of the left operand by its 256 rows of the right one. The eight partial products,
  added in the order the blocks arrive, are the product over all 2048 contracted positions: a finite sum of extended
  reals may be re-blocked and re-ordered freely.
-/
module

public import proofs.«01_k».proof.Defs
public import proofs.«01_k».proof.Proof.KernelIdeal.Result
public import proofs.«01_k».proof.Proof.Gen.ReferenceIdeal.Run
public import Idealize.ShloMosaic.Lib.ValueIdx
public import Idealize.ShloMosaic.Lib.MatmulPlain
public import Idealize.ShloMosaic.Lib.IdealHost
public import Idealize.ShloMosaic.Lib.Pipeline.Value

@[expose] public section

noncomputable section

namespace Cert.Proof.Value

open Cert.KernelIdeal Cert.KernelIdeal.Gen Cert.KernelIdeal.Run
open Idealize.ShloMosaic Idealize.ShloMosaic.TcCoe Idealize.ShloMosaic.ValueIdx
open Idealize.SL.Sem
open scoped BigOperators

/-! ## The activation and the partial products -/

/-- `z / (1 + exp (-z))`. -/
def act (z : EReal) : EReal := Ideal.div z (1 + Ideal.exp (-z))

variable (A : Dev nD → Vec Ideal S512x256 .bf16) (B : Dev nD → Vec Ideal S256x512 .bf16)

/-- Device `c`'s partial product at row `r`, column `n`. -/
def part (c : Dev nD) (r n : Fin 512) : EReal := ∑ k : Fin 256, (A c (ix2 r k) : EReal) * (B c (ix2 k n) : EReal)

theorem pay2_apply (c : Dev nD) (r n : Fin 512) : (k0_pay2 (k0_pay1 (A c)) (B c) (ix2 r n) : EReal) = part A B c r n := by
  unfold k0_pay2 k0_pay1
  dsimp only
  rw [shapeCast_self, shapeCast_self]
  refine (Ideal.matmul_plain_apply (M := 512) (K := 256) (N := 512) none (A c) (B c) (constant S512x512 .f32 0x00000000#32) r n).trans ?_
  rw [constant_apply, Ideal.ofBits_zero_f32, zero_add]
  rfl

theorem pay3_apply (c : Dev nD) (r : Fin 512) (x : Fin 256) :
    (k0_pay3 (k0_pay1 (A c)) (B c) (ix3 0 r x) : EReal) = part A B c r (col 0 x) := by
  unfold k0_pay3
  refine (shapeCast_apply _ _ (ix3 0 r x) (ix2 r x) (by simp [Shape.rowMajor_val_two, Shape.rowMajor_val_three, ix2, ix3])).trans ?_
  rw [truncf_apply]
  refine (extractStridedSlice_apply _ _ _ _ (ix2 r (col 0 x)) fun a => ?_).trans (pay2_apply A B c r (col 0 x))
  match a with
  | ⟨0, _⟩ => show r.val = 0 + r.val; omega
  | ⟨1, _⟩ => show 256 * 0 + x.val = 0 + x.val; omega

theorem pay4_apply (c : Dev nD) (r : Fin 512) (x : Fin 256) :
    (k0_pay4 (k0_pay1 (A c)) (B c) (ix3 0 r x) : EReal) = part A B c r (col 1 x) := by
  unfold k0_pay4
  refine (shapeCast_apply _ _ (ix3 0 r x) (ix2 r x) (by simp [Shape.rowMajor_val_two, Shape.rowMajor_val_three, ix2, ix3])).trans ?_
  rw [truncf_apply]
  refine (extractStridedSlice_apply _ _ _ _ (ix2 r (col 1 x)) fun a => ?_).trans (pay2_apply A B c r (col 1 x))
  match a with
  | ⟨0, _⟩ => show r.val = 0 + r.val; omega
  | ⟨1, _⟩ => show 256 * 1 + x.val = 256 + x.val; omega

theorem mine_apply (c : Dev nD) (h : Fin 2) (r : Fin 512) (x : Fin 256) :
    (mineV A B c (ix3 h r x) : EReal) = part A B c r (col h x) := by
  unfold mineV
  match h with
  | ⟨0, _⟩ => exact (if_pos rfl).trans (pay3_apply A B c r x)
  | ⟨1, _⟩ => exact (if_neg (by show ¬(1 : Fin 2) = 0; decide)).trans (pay4_apply A B c r x)

/-! ## The sum over the devices -/

/-- The own block and the seven arrivals are every device's block once. -/
theorem ring_sum (f : Dev nD → EReal) (q : Dev nD) :
    f q + f (dn q 0) + f (dn q 1) + f (dn q 2) + f (dn q 3) + f (dn q 4) + f (dn q 5) + f (dn q 6) = ∑ c : Dev nD, f c := by
  have h7 : f q + ∑ j : Fin 7, f (dn q j) = ∑ c : Dev nD, f c := by
    rw [← Finset.add_sum_erase Finset.univ f (Finset.mem_univ q)]
    refine congrArg (f q + ·) (Finset.sum_bij (fun j _ => dn q j) (fun j _ => Finset.mem_erase.mpr ⟨dn_ne q j, Finset.mem_univ _⟩)
      (fun i _ j _ h => ?_) (fun d hd => ?_) (fun _ _ => rfl))
    · rw [← up_rev, ← up_rev] at h
      exact Fin.rev_injective (up_inj q _ _ h)
    · obtain ⟨j, hj⟩ := dn_cover q d (Finset.ne_of_mem_erase hd)
      exact ⟨j, Finset.mem_univ _, hj.symm⟩
  rw [← h7, Fin.sum_univ_seven]
  simp only [add_assoc]

/-- The whole product at row `r`, column `n`. -/
def total (r n : Fin 512) : EReal := ∑ c : Dev nD, part A B c r n

theorem cast3 (v : Vec Ideal S1x64x256 .bf16) (h : S1x64x256.ShapeCasts S64x256) (r : Fin 64) (x : Fin 256) :
    shapeCast S64x256 v h (ix2 r x) = v (ix3 0 r x) :=
  shapeCast_apply _ _ _ _ (by simp [Shape.rowMajor_val_two, Shape.rowMajor_val_three, ix2, ix3])

theorem cast4 (v : Vec Ideal S1x1x64x256 .bf16) (h : S1x1x64x256.ShapeCasts S64x256) (r : Fin 64) (x : Fin 256) :
    shapeCast S64x256 v h (ix2 r x) = v (ix4 0 0 r x) :=
  shapeCast_apply _ _ _ _ (by simp [Shape.rowMajor_val_two, Shape.rowMajor_val_four, ix2, ix4])

theorem own_apply (q : Dev nD) (h : Fin 2) (r : Fin 64) (x : Fin 256) :
    (ownRow A B q h (ix3 0 r x) : EReal) = part A B q (row q r) (col h x) := mine_apply A B q h (row q r) x
theorem slot_apply (q : Dev nD) (h : Fin 2) (j : Fin 7) (r : Fin 64) (x : Fin 256) :
    (slot A B q h j (ix4 0 0 r x) : EReal) = part A B (dn q j) (row q r) (col h x) := mine_apply A B (dn q j) h (row q r) x

/-- Two equations of extended reals, added. -/
theorem add_eq {u v w z : EReal} (h : u = v) (h' : w = z) : u + w = v + z := by rw [h, h']

/-- The kernel's running sum of the own block and the seven arrivals, at an element. -/
theorem sum_blocks (q : Dev nD) (h : Fin 2) (r : Fin 64) (x : Fin 256) :
    let o : EReal := shapeCast S64x256 (ownRow A B q h) shapeCasts_S1x64x256_S64x256 (ix2 r x)
    let s : Fin 7 → EReal := fun j => shapeCast S64x256 (slot A B q h j) shapeCasts_S1x1x64x256_S64x256 (ix2 r x)
    o + s 0 + s 1 + s 2 + s 3 + s 4 + s 5 + s 6
      = (fun p : Dev nD → EReal => p q + p (dn q 0) + p (dn q 1) + p (dn q 2) + p (dn q 3) + p (dn q 4) + p (dn q 5) + p (dn q 6))
          fun c => part A B c (row q r) (col h x) := by
  intro o s
  have ho : o = part A B q (row q r) (col h x) := (cast3 _ _ r x).trans (own_apply A B q h r x)
  have hs : ∀ j, s j = part A B (dn q j) (row q r) (col h x) := fun j => (cast4 _ _ r x).trans (slot_apply A B q h j r x)
  exact add_eq (add_eq (add_eq (add_eq (add_eq (add_eq (add_eq ho (hs 0)) (hs 1)) (hs 2)) (hs 3)) (hs 4)) (hs 5)) (hs 6)

/-- The activation as the kernel writes it. -/
theorem act_kernel (z : EReal) :
    Ideal.div z (Ideal.ofBits .f32 0x3F800000#32 + Ideal.exp (Ideal.ofBits .f32 0x00000000#32 - z)) = act z := by
  rw [Ideal.ofBits_one_f32, Ideal.ofBits_zero_f32, zero_sub]; rfl

theorem blk0_apply (q : Dev nD) (r : Fin 64) (x : Fin 256) : (blk0 A B q (ix2 r x) : EReal) = act (total A B (row q r) (col 0 x)) := by
  unfold blk0 k0_pay9 k0_pay8 k0_pay7 k0_pay6 k0_pay5
  dsimp only
  rw [truncf_apply, divf_apply, total, ← ring_sum (fun c => part A B c (row q r) (col 0 x)) q]
  exact (congrArg (fun z : EReal => Ideal.div z (Ideal.ofBits .f32 0x3F800000#32 + Ideal.exp (Ideal.ofBits .f32 0x00000000#32 - z))) (sum_blocks A B q 0 r x)).trans (act_kernel _)

theorem blk1_apply (q : Dev nD) (r : Fin 64) (x : Fin 256) : (blk1 A B q (ix2 r x) : EReal) = act (total A B (row q r) (col 1 x)) := by
  unfold blk1 k0_pay13 k0_pay12 k0_pay11 k0_pay10
  dsimp only
  rw [truncf_apply, divf_apply, total, ← ring_sum (fun c => part A B c (row q r) (col 1 x)) q]
  exact (congrArg (fun z : EReal => Ideal.div z (Ideal.ofBits .f32 0x3F800000#32 + Ideal.exp (Ideal.ofBits .f32 0x00000000#32 - z))) (sum_blocks A B q 1 r x)).trans (act_kernel _)

theorem blk_apply (q : Dev nD) (h : Fin 2) (r : Fin 64) (x : Fin 256) :
    (blk A B q h (ix2 r x) : EReal) = act (total A B (row q r) (col h x)) := by
  unfold blk
  match h with
  | ⟨0, _⟩ => exact (congrFun (if_pos rfl) _).trans (blk0_apply A B q r x)
  | ⟨1, _⟩ => exact (congrFun (if_neg (by show ¬(1 : Fin 2) = 0; decide)) _).trans (blk1_apply A B q r x)

/-- The result at row `r`, column `n`: the activation of the whole product there. -/
theorem out_apply (r n : Fin 512) : (outV A B (ix2 r n) : EReal) = act (total A B r n) := by
  unfold outV
  refine (blk_apply A B _ _ _ _).trans ?_
  have hr : row (okey (ix2 r n)).2 ⟨r.val % 64, Nat.mod_lt _ (by decide)⟩ = r := Fin.ext (by
    show 64 * (r.val / 64) + r.val % 64 = r.val; omega)
  have hn : col (okey (ix2 r n)).1 ⟨n.val % 256, Nat.mod_lt _ (by decide)⟩ = n := Fin.ext (by
    show 256 * (n.val / 256) + n.val % 256 = n.val; omega)
  exact congrArg act (congrArg₂ (total A B) hr hn)

/-! ## The claim -/

variable (a : (⟨2, ![512, 2048]⟩ : Shape).Idx → EReal) (b : (⟨2, ![2048, 512]⟩ : Shape).Idx → EReal)

/-- The whole product is the sum of the devices' partial products. -/
theorem total_block (r n : Fin 512) :
    total (fun c => Layout.block ⟨2, ![512, 256]⟩ ⟨2, ![512, 2048]⟩ 1 8 c a) (fun c => Layout.block ⟨2, ![256, 512]⟩ ⟨2, ![2048, 512]⟩ 0 8 c b) r n
      = ∑ k : Fin 2048, a (ix2 r k) * b (ix2 k n) := by
  rw [← Equiv.sum_comp (finProdFinEquiv (m := 8) (n := 256)) (fun k : Fin (8 * 256) => a (ix2 r k) * b (ix2 k n)),
    Fintype.sum_prod_type]
  refine Finset.sum_congr rfl fun c _ => Finset.sum_congr rfl fun k _ => ?_
  refine congrArg₂ (· * ·) (congrArg a (funext fun d => Fin.ext ?_)) (congrArg b (funext fun d => Fin.ext ?_))
  · match d with
    | ⟨0, _⟩ => rfl
    | ⟨1, _⟩ => show c.val * 256 + k.val = k.val + 256 * c.val; omega
  · match d with
    | ⟨0, _⟩ => show c.val * 256 + k.val = k.val + 256 * c.val; omega
    | ⟨1, _⟩ => rfl

/-- The reference's result at row `r`, column `n`. -/
theorem ref_apply (r n : Fin 512) (x : FVec Ideal Cert.ReferenceIdeal.S512x2048 .bf16) (y : FVec Ideal Cert.ReferenceIdeal.S2048x512 .bf16) :
    (Host.dotGeneral Cert.ReferenceIdeal.dot_S512x2048_S2048x512_S512x512_1_0_0_1_n_n none
      (extf .f32 x Cert.ReferenceIdeal.Facts₀.bitsLt_bf16_f32) (extf .f32 y Cert.ReferenceIdeal.Facts₀.bitsLt_bf16_f32) (ix2 r n) : EReal)
      = ∑ k : Fin 2048, (x (ix2 r k) : EReal) * (y (ix2 k n) : EReal) := by
  refine (Ideal.matmul_plain_apply (M := 512) (K := 2048) (N := 512) (φ₁ := .f32) (φ₂ := .f32) none x y (fun _ => (0 : EReal)) r n).trans ?_
  rw [zero_add]

variable (m' : (ℓ : Loc Cert.ReferenceIdeal.nD Cert.ReferenceIdeal.τ Cert.ReferenceIdeal.sig) → Buf (Elt Ideal) ℓ)

/-- The reference's left operand. -/
def refA : (⟨2, ![512, 2048]⟩ : Shape).Idx → EReal := m' (((0 : Dev Cert.ReferenceIdeal.nD).tc : Thread Cert.ReferenceIdeal.nD Cert.ReferenceIdeal.τ).loc Cert.ReferenceIdeal.main_arg0)
/-- The reference's right operand. -/
def refB : (⟨2, ![2048, 512]⟩ : Shape).Idx → EReal := m' (((0 : Dev Cert.ReferenceIdeal.nD).tc : Thread Cert.ReferenceIdeal.nD Cert.ReferenceIdeal.τ).loc Cert.ReferenceIdeal.main_arg1)

/-- The reference's run, its result at every element the activation of the whole product. -/
theorem ref_run (g' : Dev Cert.ReferenceIdeal.nD → PrngReg) (v : S512x512.Idx → Ideal .bf16)
    (hv : ∀ r n : Fin 512, (v (ix2 r n) : EReal) = act (∑ k : Fin 2048, refA m' (ix2 r k) * refB m' (ix2 k n))) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v8) = v
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine (θ_run _ _ _).mono (fun _ h => ⟨(h 0).1.trans ?_, (h 0).2⟩) (Cert.ReferenceIdeal.Value.run (F := Ideal) m' g')
  funext i
  obtain ⟨r, n, rfl⟩ : ∃ r n : Fin 512, i = ix2 r n := ⟨i 0, i 1, eq_ix2 i⟩
  refine Eq.trans ?_ (hv r n).symm
  refine Eq.trans ?_ (congrArg act (ref_apply r n _ _))
  unfold act
  rw [← Ideal.ofBits_one_f32]
  rfl

/-- Every device's result is the reference's. -/
theorem algebraic : Cert.algebraic_KernelIdeal_ReferenceIdeal := by
  intro m g m' g' _ hag
  refine ⟨outV (F := Ideal) (fun q : Dev nD => m ((q.tc : Thread nD τ).loc main_arg0)) (fun q : Dev nD => m ((q.tc : Thread nD τ).loc main_arg1)), ?_, ?_⟩
  · exact (θ_run _ _ _).mono (fun _ h => h.1) (run_result (F := Ideal) m g)
  · refine ref_run m' g' _ fun r n => ?_
    refine (out_apply _ _ r n).trans (congrArg act ?_)
    refine Eq.trans ?_ (total_block (refA m') (refB m') r n)
    exact congrArg₂ (fun A B => total A B r n) (funext fun c => (hag c).1) (funext fun c => (hag c).2)

/-! ## The frames -/

theorem frame_ideal : Cert.quiescent_KernelIdeal := fun m g _ =>
  (θ_run _ _ _).mono (fun _ h => ⟨fun c => (h.1 c).2, h.2⟩) (run_result (F := Ideal) m g)

theorem frame_ref : Cert.quiescent_ReferenceIdeal := fun m g _ =>
  (θ_run _ _ _).mono (fun r h => ⟨fun c => (h c).2, sem_eq_zero_of_no_sems (by decide) r.2⟩) (Cert.ReferenceIdeal.Value.run (F := Ideal) m g)

end Cert.Proof.Value

end
-- ==== Proof.lean ====
/-
  The proof of this certificate's claims: each program's run, read at the claims' buffers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Result
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run _ _ _).mono (fun _ h => ⟨fun c => (h.1 c).2, h.2⟩) (Cert.Kernel.Run.run_result (F := Bits) m g)

theorem claim : Cert.Claim := ⟨Cert.Kernel.Gen.facts, Cert.KernelIdeal.Gen.facts, Cert.ReferenceIdeal.Gen.facts,
  frame_kernel, Value.frame_ideal, Value.frame_ref, trivial, Value.algebraic⟩

end Cert.Proof

end
